-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![32768, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![8192, 1024]⟩ ⟨2, ![32768, 1024]⟩ (Layout.meshBlock [2, 4, 4] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x1024 : Shape := ⟨2, ![8192, 1024]⟩
abbrev S32768x1024 : Shape := ⟨2, ![32768, 1024]⟩
abbrev S_ : Shape := ⟨0, ![]⟩
abbrev S3x1 : Shape := ⟨2, ![3, 1]⟩
abbrev S6x1 : Shape := ⟨2, ![6, 1]⟩
abbrev S1x1 : Shape := ⟨2, ![1, 1]⟩
abbrev S4096x1024 : Shape := ⟨2, ![4096, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32768x1024, .f32⟩
  | _, _ => ⟨S8192x1024, .f32⟩

abbrev bufScoped : (cs : CoreSpace) → Fin (nBuf (.core cs)) → Bool
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_20 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_19 : BitVec 32 := 16#32
  let v37 : BitVec 32 := Scalar.muli v9 c16_i32_19
  let v38 : BitVec 32 := Scalar.addi c0_i32_20 v37
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v39 : BitVec 32 := Scalar.muli v5 c4_i32_21
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v41 : BitVec 32 := Scalar.muli v8 c1_i32_22
  let v42 : BitVec 32 := Scalar.addi v40 v41
  v42.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_17 : BitVec 32 := 0#32
  let v34 : BitVec 1 := Scalar.cmpi .sgt v5 c0_i32_17
  let v43 : BitVec 32 := Scalar.extui v34
  let c0_i32_23 : BitVec 32 := 0#32
  let v44 : BitVec 1 := Scalar.cmpi .ne v43 c0_i32_23
  v44

def k0_dev2 (d0 : Dev nD) : Nat :=
  let c0_i32_333 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_332 : BitVec 32 := 16#32
  let v350 : BitVec 32 := Scalar.muli v2 c16_i32_332
  let v351 : BitVec 32 := Scalar.addi c0_i32_333 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_9 : BitVec 32 := 4#32
  let v21 : BitVec 32 := Scalar.addi v5 c4_i32_9
  let c1_i32_10 : BitVec 32 := 1#32
  let v22 : BitVec 32 := Scalar.subi v21 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c4_i32_334 : BitVec 32 := 4#32
  let v352 : BitVec 32 := Scalar.muli v32 c4_i32_334
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v354 : BitVec 32 := Scalar.muli v8 c1_i32_335
  let v355 : BitVec 32 := Scalar.addi v353 v354
  v355.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v35 : BitVec 1 := Scalar.cmpi .slt v5 c3_i32
  let v45 : BitVec 32 := Scalar.extui v35
  let c0_i32_24 : BitVec 32 := 0#32
  let v46 : BitVec 1 := Scalar.cmpi .ne v45 c0_i32_24
  v46

def k0_dev3 (d0 : Dev nD) : Nat :=
  let c0_i32_333 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_332 : BitVec 32 := 16#32
  let v350 : BitVec 32 := Scalar.muli v2 c16_i32_332
  let v351 : BitVec 32 := Scalar.addi c0_i32_333 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_334 : BitVec 32 := 4#32
  let v352 : BitVec 32 := Scalar.muli v20 c4_i32_334
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v354 : BitVec 32 := Scalar.muli v8 c1_i32_335
  let v355 : BitVec 32 := Scalar.addi v353 v354
  v355.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8192_i32 : BitVec 32 := 8192#32
  let v54 : BitVec 32 := Scalar.muli v5 c8192_i32
  let c0_i32_27 : BitVec 32 := 0#32
  ![v54.toNat, 0]
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v35 : BitVec 1 := Scalar.cmpi .slt v5 c3_i32
  let v261 : BitVec 32 := Scalar.extui v35
  let c0_i32_167 : BitVec 32 := 0#32
  let v262 : BitVec 1 := Scalar.cmpi .ne v261 c0_i32_167
  v262

def k0_off2 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_28 : BitVec 32 := 0#32
  let v56 : BitVec 32 := Scalar.subi v5 c0_i32_28
  let c4_i32_29 : BitVec 32 := 4#32
  let c0_i32_30 : BitVec 32 := 0#32
  let v57 : BitVec 1 := Scalar.cmpi .eq c4_i32_29 c0_i32_30
  let c1_i32_31 : BitVec 32 := 1#32
  let v58 : BitVec 32 := Scalar.select v57 c1_i32_31 c4_i32_29
  let v59 : BitVec 32 := Scalar.remsi v56 v58
  let c0_i32_33 : BitVec 32 := 0#32
  let v61 : BitVec 1 := Scalar.cmpi .slt v59 c0_i32_33
  let c0_i32_34 : BitVec 32 := 0#32
  let v62 : BitVec 1 := Scalar.cmpi .slt v58 c0_i32_34
  let v63 : BitVec 1 := Scalar.xori v61 v62
  let c0_i32_32 : BitVec 32 := 0#32
  let v60 : BitVec 1 := Scalar.cmpi .ne v59 c0_i32_32
  let v64 : BitVec 1 := Scalar.andi v63 v60
  let v65 : BitVec 32 := Scalar.addi v59 v58
  let v66 : BitVec 32 := Scalar.select v64 v65 v59
  let c8192_i32_43 : BitVec 32 := 8192#32
  let v79 : BitVec 32 := Scalar.muli v66 c8192_i32_43
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v80 : BitVec 32 := Scalar.addi v79 v33
  let c0_i32_44 : BitVec 32 := 0#32
  let v81 : BitVec 32 := Scalar.addi v80 c0_i32_44
  let c0_i32_335 : BitVec 32 := 0#32
  ![v81.toNat, 0]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let c0_i32_42 : BitVec 32 := 0#32
  let v78 : BitVec 32 := Scalar.addi v33 c0_i32_42
  let c0_i32_336 : BitVec 32 := 0#32
  ![v78.toNat, 0]
def k0_dev4 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v350 : BitVec 32 := Scalar.muli v2 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_333 : BitVec 32 := 4#32
  let v352 : BitVec 32 := Scalar.muli v20 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_17 : BitVec 32 := 0#32
  let v34 : BitVec 1 := Scalar.cmpi .sgt v5 c0_i32_17
  let v263 : BitVec 32 := Scalar.extui v34
  let c0_i32_172 : BitVec 32 := 0#32
  let v264 : BitVec 1 := Scalar.cmpi .ne v263 c0_i32_172
  v264

def k0_off4 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_35 : BitVec 32 := 0#32
  let v67 : BitVec 32 := Scalar.addi v5 c0_i32_35
  let c4_i32_36 : BitVec 32 := 4#32
  let c0_i32_37 : BitVec 32 := 0#32
  let v68 : BitVec 1 := Scalar.cmpi .eq c4_i32_36 c0_i32_37
  let c1_i32_38 : BitVec 32 := 1#32
  let v69 : BitVec 32 := Scalar.select v68 c1_i32_38 c4_i32_36
  let v70 : BitVec 32 := Scalar.remsi v67 v69
  let c0_i32_40 : BitVec 32 := 0#32
  let v72 : BitVec 1 := Scalar.cmpi .slt v70 c0_i32_40
  let c0_i32_41 : BitVec 32 := 0#32
  let v73 : BitVec 1 := Scalar.cmpi .slt v69 c0_i32_41
  let v74 : BitVec 1 := Scalar.xori v72 v73
  let c0_i32_39 : BitVec 32 := 0#32
  let v71 : BitVec 1 := Scalar.cmpi .ne v70 c0_i32_39
  let v75 : BitVec 1 := Scalar.andi v74 v71
  let v76 : BitVec 32 := Scalar.addi v70 v69
  let v77 : BitVec 32 := Scalar.select v75 v76 v70
  let c8192_i32_45 : BitVec 32 := 8192#32
  let v82 : BitVec 32 := Scalar.muli v77 c8192_i32_45
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v83 : BitVec 32 := Scalar.addi v82 v33
  let c0_i32_46 : BitVec 32 := 0#32
  let v84 : BitVec 32 := Scalar.addi v83 c0_i32_46
  let c0_i32_335 : BitVec 32 := 0#32
  ![v84.toNat, 0]
def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let c0_i32_42 : BitVec 32 := 0#32
  let v78 : BitVec 32 := Scalar.addi v33 c0_i32_42
  let c0_i32_336 : BitVec 32 := 0#32
  ![v78.toNat, 0]
def k0_dev5 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v350 : BitVec 32 := Scalar.muli v2 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_9 : BitVec 32 := 4#32
  let v21 : BitVec 32 := Scalar.addi v5 c4_i32_9
  let c1_i32_10 : BitVec 32 := 1#32
  let v22 : BitVec 32 := Scalar.subi v21 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c4_i32_333 : BitVec 32 := 4#32
  let v352 : BitVec 32 := Scalar.muli v32 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_173 : BitVec 32 := 1#32
  let v265 : BitVec 1 := Scalar.cmpi .sge v5 c1_i32_173
  let v267 : BitVec 32 := Scalar.extui v265
  let c0_i32_179 : BitVec 32 := 0#32
  let v268 : BitVec 1 := Scalar.cmpi .ne v267 c0_i32_179
  v268

def k0_off6 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_28 : BitVec 32 := 0#32
  let v56 : BitVec 32 := Scalar.subi v5 c0_i32_28
  let c4_i32_29 : BitVec 32 := 4#32
  let c0_i32_30 : BitVec 32 := 0#32
  let v57 : BitVec 1 := Scalar.cmpi .eq c4_i32_29 c0_i32_30
  let c1_i32_31 : BitVec 32 := 1#32
  let v58 : BitVec 32 := Scalar.select v57 c1_i32_31 c4_i32_29
  let v59 : BitVec 32 := Scalar.remsi v56 v58
  let c0_i32_33 : BitVec 32 := 0#32
  let v61 : BitVec 1 := Scalar.cmpi .slt v59 c0_i32_33
  let c0_i32_34 : BitVec 32 := 0#32
  let v62 : BitVec 1 := Scalar.cmpi .slt v58 c0_i32_34
  let v63 : BitVec 1 := Scalar.xori v61 v62
  let c0_i32_32 : BitVec 32 := 0#32
  let v60 : BitVec 1 := Scalar.cmpi .ne v59 c0_i32_32
  let v64 : BitVec 1 := Scalar.andi v63 v60
  let v65 : BitVec 32 := Scalar.addi v59 v58
  let v66 : BitVec 32 := Scalar.select v64 v65 v59
  let c8192_i32_43 : BitVec 32 := 8192#32
  let v79 : BitVec 32 := Scalar.muli v66 c8192_i32_43
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v80 : BitVec 32 := Scalar.addi v79 v33
  let c0_i32_44 : BitVec 32 := 0#32
  let v81 : BitVec 32 := Scalar.addi v80 c0_i32_44
  let c0_i32_335 : BitVec 32 := 0#32
  ![v81.toNat, 0]
def k0_off7 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let c0_i32_42 : BitVec 32 := 0#32
  let v78 : BitVec 32 := Scalar.addi v33 c0_i32_42
  let c0_i32_336 : BitVec 32 := 0#32
  ![v78.toNat, 0]
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_173 : BitVec 32 := 1#32
  let v265 : BitVec 1 := Scalar.cmpi .sge v5 c1_i32_173
  let c3_i32 : BitVec 32 := 3#32
  let v35 : BitVec 1 := Scalar.cmpi .slt v5 c3_i32
  let v269 : BitVec 1 := Scalar.andi v265 v35
  let v270 : BitVec 32 := Scalar.extui v269
  let c0_i32_184 : BitVec 32 := 0#32
  let v271 : BitVec 1 := Scalar.cmpi .ne v270 c0_i32_184
  v271

def k0_off8 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_47 : BitVec 32 := 1#32
  let v85 : BitVec 32 := Scalar.subi v5 c1_i32_47
  let c4_i32_48 : BitVec 32 := 4#32
  let c0_i32_49 : BitVec 32 := 0#32
  let v86 : BitVec 1 := Scalar.cmpi .eq c4_i32_48 c0_i32_49
  let c1_i32_50 : BitVec 32 := 1#32
  let v87 : BitVec 32 := Scalar.select v86 c1_i32_50 c4_i32_48
  let v88 : BitVec 32 := Scalar.remsi v85 v87
  let c0_i32_52 : BitVec 32 := 0#32
  let v90 : BitVec 1 := Scalar.cmpi .slt v88 c0_i32_52
  let c0_i32_53 : BitVec 32 := 0#32
  let v91 : BitVec 1 := Scalar.cmpi .slt v87 c0_i32_53
  let v92 : BitVec 1 := Scalar.xori v90 v91
  let c0_i32_51 : BitVec 32 := 0#32
  let v89 : BitVec 1 := Scalar.cmpi .ne v88 c0_i32_51
  let v93 : BitVec 1 := Scalar.andi v92 v89
  let v94 : BitVec 32 := Scalar.addi v88 v87
  let v95 : BitVec 32 := Scalar.select v93 v94 v88
  let c8192_i32_63 : BitVec 32 := 8192#32
  let v110 : BitVec 32 := Scalar.muli v95 c8192_i32_63
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v111 : BitVec 32 := Scalar.addi v110 v33
  let c0_i32_64 : BitVec 32 := 0#32
  let v112 : BitVec 32 := Scalar.addi v111 c0_i32_64
  let c0_i32_335 : BitVec 32 := 0#32
  ![v112.toNat, 0]
def k0_dev6 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v350 : BitVec 32 := Scalar.muli v2 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_333 : BitVec 32 := 4#32
  let v352 : BitVec 32 := Scalar.muli v20 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_173 : BitVec 32 := 1#32
  let v265 : BitVec 1 := Scalar.cmpi .sge v5 c1_i32_173
  let v272 : BitVec 32 := Scalar.extui v265
  let c0_i32_189 : BitVec 32 := 0#32
  let v273 : BitVec 1 := Scalar.cmpi .ne v272 c0_i32_189
  v273

def k0_off9 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_91 : BitVec 32 := 1#32
  let v153 : BitVec 32 := Scalar.subi v5 c1_i32_91
  let c0_i32_92 : BitVec 32 := 0#32
  let v154 : BitVec 32 := Scalar.subi v153 c0_i32_92
  let c4_i32_93 : BitVec 32 := 4#32
  let c0_i32_94 : BitVec 32 := 0#32
  let v155 : BitVec 1 := Scalar.cmpi .eq c4_i32_93 c0_i32_94
  let c1_i32_95 : BitVec 32 := 1#32
  let v156 : BitVec 32 := Scalar.select v155 c1_i32_95 c4_i32_93
  let v157 : BitVec 32 := Scalar.remsi v154 v156
  let c0_i32_97 : BitVec 32 := 0#32
  let v159 : BitVec 1 := Scalar.cmpi .slt v157 c0_i32_97
  let c0_i32_98 : BitVec 32 := 0#32
  let v160 : BitVec 1 := Scalar.cmpi .slt v156 c0_i32_98
  let v161 : BitVec 1 := Scalar.xori v159 v160
  let c0_i32_96 : BitVec 32 := 0#32
  let v158 : BitVec 1 := Scalar.cmpi .ne v157 c0_i32_96
  let v162 : BitVec 1 := Scalar.andi v161 v158
  let v163 : BitVec 32 := Scalar.addi v157 v156
  let v164 : BitVec 32 := Scalar.select v162 v163 v157
  let c8192_i32_109 : BitVec 32 := 8192#32
  let v180 : BitVec 32 := Scalar.muli v164 c8192_i32_109
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v181 : BitVec 32 := Scalar.addi v180 v33
  let c0_i32_110 : BitVec 32 := 0#32
  let v182 : BitVec 32 := Scalar.addi v181 c0_i32_110
  let c0_i32_335 : BitVec 32 := 0#32
  ![v182.toNat, 0]
def k0_dev7 (d0 : Dev nD) : Nat :=
  let c0_i32_332 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_331 : BitVec 32 := 16#32
  let v350 : BitVec 32 := Scalar.muli v9 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v352 : BitVec 32 := Scalar.muli v5 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_174 : BitVec 32 := 2#32
  let v266 : BitVec 1 := Scalar.cmpi .sle v5 c2_i32_174
  let v274 : BitVec 32 := Scalar.extui v266
  let c0_i32_194 : BitVec 32 := 0#32
  let v275 : BitVec 1 := Scalar.cmpi .ne v274 c0_i32_194
  v275

def k0_off10 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_35 : BitVec 32 := 0#32
  let v67 : BitVec 32 := Scalar.addi v5 c0_i32_35
  let c4_i32_36 : BitVec 32 := 4#32
  let c0_i32_37 : BitVec 32 := 0#32
  let v68 : BitVec 1 := Scalar.cmpi .eq c4_i32_36 c0_i32_37
  let c1_i32_38 : BitVec 32 := 1#32
  let v69 : BitVec 32 := Scalar.select v68 c1_i32_38 c4_i32_36
  let v70 : BitVec 32 := Scalar.remsi v67 v69
  let c0_i32_40 : BitVec 32 := 0#32
  let v72 : BitVec 1 := Scalar.cmpi .slt v70 c0_i32_40
  let c0_i32_41 : BitVec 32 := 0#32
  let v73 : BitVec 1 := Scalar.cmpi .slt v69 c0_i32_41
  let v74 : BitVec 1 := Scalar.xori v72 v73
  let c0_i32_39 : BitVec 32 := 0#32
  let v71 : BitVec 1 := Scalar.cmpi .ne v70 c0_i32_39
  let v75 : BitVec 1 := Scalar.andi v74 v71
  let v76 : BitVec 32 := Scalar.addi v70 v69
  let v77 : BitVec 32 := Scalar.select v75 v76 v70
  let c8192_i32_45 : BitVec 32 := 8192#32
  let v82 : BitVec 32 := Scalar.muli v77 c8192_i32_45
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v83 : BitVec 32 := Scalar.addi v82 v33
  let c0_i32_46 : BitVec 32 := 0#32
  let v84 : BitVec 32 := Scalar.addi v83 c0_i32_46
  let c0_i32_335 : BitVec 32 := 0#32
  ![v84.toNat, 0]
def k0_off11 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let c0_i32_42 : BitVec 32 := 0#32
  let v78 : BitVec 32 := Scalar.addi v33 c0_i32_42
  let c0_i32_336 : BitVec 32 := 0#32
  ![v78.toNat, 0]
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_174 : BitVec 32 := 2#32
  let v266 : BitVec 1 := Scalar.cmpi .sle v5 c2_i32_174
  let c0_i32_17 : BitVec 32 := 0#32
  let v34 : BitVec 1 := Scalar.cmpi .sgt v5 c0_i32_17
  let v276 : BitVec 1 := Scalar.andi v266 v34
  let v277 : BitVec 32 := Scalar.extui v276
  let c0_i32_199 : BitVec 32 := 0#32
  let v278 : BitVec 1 := Scalar.cmpi .ne v277 c0_i32_199
  v278

def k0_off12 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_54 : BitVec 32 := 1#32
  let v96 : BitVec 32 := Scalar.addi v5 c1_i32_54
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi v96 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c8192_i32_67 : BitVec 32 := 8192#32
  let v116 : BitVec 32 := Scalar.muli v106 c8192_i32_67
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v117 : BitVec 32 := Scalar.addi v116 v33
  let c0_i32_68 : BitVec 32 := 0#32
  let v118 : BitVec 32 := Scalar.addi v117 c0_i32_68
  let c0_i32_335 : BitVec 32 := 0#32
  ![v118.toNat, 0]
def k0_dev8 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v350 : BitVec 32 := Scalar.muli v2 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_9 : BitVec 32 := 4#32
  let v21 : BitVec 32 := Scalar.addi v5 c4_i32_9
  let c1_i32_10 : BitVec 32 := 1#32
  let v22 : BitVec 32 := Scalar.subi v21 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c4_i32_333 : BitVec 32 := 4#32
  let v352 : BitVec 32 := Scalar.muli v32 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_174 : BitVec 32 := 2#32
  let v266 : BitVec 1 := Scalar.cmpi .sle v5 c2_i32_174
  let v279 : BitVec 32 := Scalar.extui v266
  let c0_i32_204 : BitVec 32 := 0#32
  let v280 : BitVec 1 := Scalar.cmpi .ne v279 c0_i32_204
  v280

def k0_off13 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_99 : BitVec 32 := 1#32
  let v165 : BitVec 32 := Scalar.addi v5 c1_i32_99
  let c0_i32_100 : BitVec 32 := 0#32
  let v166 : BitVec 32 := Scalar.addi v165 c0_i32_100
  let c4_i32_101 : BitVec 32 := 4#32
  let c0_i32_102 : BitVec 32 := 0#32
  let v167 : BitVec 1 := Scalar.cmpi .eq c4_i32_101 c0_i32_102
  let c1_i32_103 : BitVec 32 := 1#32
  let v168 : BitVec 32 := Scalar.select v167 c1_i32_103 c4_i32_101
  let v169 : BitVec 32 := Scalar.remsi v166 v168
  let c0_i32_105 : BitVec 32 := 0#32
  let v171 : BitVec 1 := Scalar.cmpi .slt v169 c0_i32_105
  let c0_i32_106 : BitVec 32 := 0#32
  let v172 : BitVec 1 := Scalar.cmpi .slt v168 c0_i32_106
  let v173 : BitVec 1 := Scalar.xori v171 v172
  let c0_i32_104 : BitVec 32 := 0#32
  let v170 : BitVec 1 := Scalar.cmpi .ne v169 c0_i32_104
  let v174 : BitVec 1 := Scalar.andi v173 v170
  let v175 : BitVec 32 := Scalar.addi v169 v168
  let v176 : BitVec 32 := Scalar.select v174 v175 v169
  let c8192_i32_113 : BitVec 32 := 8192#32
  let v186 : BitVec 32 := Scalar.muli v176 c8192_i32_113
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v187 : BitVec 32 := Scalar.addi v186 v33
  let c0_i32_114 : BitVec 32 := 0#32
  let v188 : BitVec 32 := Scalar.addi v187 c0_i32_114
  let c0_i32_335 : BitVec 32 := 0#32
  ![v188.toNat, 0]
def k0_dev9 (d0 : Dev nD) : Nat :=
  let c0_i32_332 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_331 : BitVec 32 := 16#32
  let v350 : BitVec 32 := Scalar.muli v9 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v352 : BitVec 32 := Scalar.muli v5 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_205 : BitVec 32 := 2#32
  let v281 : BitVec 1 := Scalar.cmpi .sge v5 c2_i32_205
  let v283 : BitVec 32 := Scalar.extui v281
  let c0_i32_211 : BitVec 32 := 0#32
  let v284 : BitVec 1 := Scalar.cmpi .ne v283 c0_i32_211
  v284

def k0_off14 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_47 : BitVec 32 := 1#32
  let v85 : BitVec 32 := Scalar.subi v5 c1_i32_47
  let c4_i32_48 : BitVec 32 := 4#32
  let c0_i32_49 : BitVec 32 := 0#32
  let v86 : BitVec 1 := Scalar.cmpi .eq c4_i32_48 c0_i32_49
  let c1_i32_50 : BitVec 32 := 1#32
  let v87 : BitVec 32 := Scalar.select v86 c1_i32_50 c4_i32_48
  let v88 : BitVec 32 := Scalar.remsi v85 v87
  let c0_i32_52 : BitVec 32 := 0#32
  let v90 : BitVec 1 := Scalar.cmpi .slt v88 c0_i32_52
  let c0_i32_53 : BitVec 32 := 0#32
  let v91 : BitVec 1 := Scalar.cmpi .slt v87 c0_i32_53
  let v92 : BitVec 1 := Scalar.xori v90 v91
  let c0_i32_51 : BitVec 32 := 0#32
  let v89 : BitVec 1 := Scalar.cmpi .ne v88 c0_i32_51
  let v93 : BitVec 1 := Scalar.andi v92 v89
  let v94 : BitVec 32 := Scalar.addi v88 v87
  let v95 : BitVec 32 := Scalar.select v93 v94 v88
  let c8192_i32_63 : BitVec 32 := 8192#32
  let v110 : BitVec 32 := Scalar.muli v95 c8192_i32_63
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v111 : BitVec 32 := Scalar.addi v110 v33
  let c0_i32_64 : BitVec 32 := 0#32
  let v112 : BitVec 32 := Scalar.addi v111 c0_i32_64
  let c0_i32_335 : BitVec 32 := 0#32
  ![v112.toNat, 0]
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_205 : BitVec 32 := 2#32
  let v281 : BitVec 1 := Scalar.cmpi .sge v5 c2_i32_205
  let c3_i32 : BitVec 32 := 3#32
  let v35 : BitVec 1 := Scalar.cmpi .slt v5 c3_i32
  let v285 : BitVec 1 := Scalar.andi v281 v35
  let v286 : BitVec 32 := Scalar.extui v285
  let c0_i32_216 : BitVec 32 := 0#32
  let v287 : BitVec 1 := Scalar.cmpi .ne v286 c0_i32_216
  v287

def k0_off15 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_69 : BitVec 32 := 2#32
  let v119 : BitVec 32 := Scalar.subi v5 c2_i32_69
  let c4_i32_70 : BitVec 32 := 4#32
  let c0_i32_71 : BitVec 32 := 0#32
  let v120 : BitVec 1 := Scalar.cmpi .eq c4_i32_70 c0_i32_71
  let c1_i32_72 : BitVec 32 := 1#32
  let v121 : BitVec 32 := Scalar.select v120 c1_i32_72 c4_i32_70
  let v122 : BitVec 32 := Scalar.remsi v119 v121
  let c0_i32_74 : BitVec 32 := 0#32
  let v124 : BitVec 1 := Scalar.cmpi .slt v122 c0_i32_74
  let c0_i32_75 : BitVec 32 := 0#32
  let v125 : BitVec 1 := Scalar.cmpi .slt v121 c0_i32_75
  let v126 : BitVec 1 := Scalar.xori v124 v125
  let c0_i32_73 : BitVec 32 := 0#32
  let v123 : BitVec 1 := Scalar.cmpi .ne v122 c0_i32_73
  let v127 : BitVec 1 := Scalar.andi v126 v123
  let v128 : BitVec 32 := Scalar.addi v122 v121
  let v129 : BitVec 32 := Scalar.select v127 v128 v122
  let c8192_i32_85 : BitVec 32 := 8192#32
  let v144 : BitVec 32 := Scalar.muli v129 c8192_i32_85
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v145 : BitVec 32 := Scalar.addi v144 v33
  let c0_i32_86 : BitVec 32 := 0#32
  let v146 : BitVec 32 := Scalar.addi v145 c0_i32_86
  let c0_i32_335 : BitVec 32 := 0#32
  ![v146.toNat, 0]
def k0_dev10 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v350 : BitVec 32 := Scalar.muli v2 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_333 : BitVec 32 := 4#32
  let v352 : BitVec 32 := Scalar.muli v20 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_205 : BitVec 32 := 2#32
  let v281 : BitVec 1 := Scalar.cmpi .sge v5 c2_i32_205
  let v288 : BitVec 32 := Scalar.extui v281
  let c0_i32_221 : BitVec 32 := 0#32
  let v289 : BitVec 1 := Scalar.cmpi .ne v288 c0_i32_221
  v289

def k0_off16 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_115 : BitVec 32 := 1#32
  let v189 : BitVec 32 := Scalar.subi v5 c1_i32_115
  let c1_i32_116 : BitVec 32 := 1#32
  let v190 : BitVec 32 := Scalar.subi v189 c1_i32_116
  let c4_i32_117 : BitVec 32 := 4#32
  let c0_i32_118 : BitVec 32 := 0#32
  let v191 : BitVec 1 := Scalar.cmpi .eq c4_i32_117 c0_i32_118
  let c1_i32_119 : BitVec 32 := 1#32
  let v192 : BitVec 32 := Scalar.select v191 c1_i32_119 c4_i32_117
  let v193 : BitVec 32 := Scalar.remsi v190 v192
  let c0_i32_121 : BitVec 32 := 0#32
  let v195 : BitVec 1 := Scalar.cmpi .slt v193 c0_i32_121
  let c0_i32_122 : BitVec 32 := 0#32
  let v196 : BitVec 1 := Scalar.cmpi .slt v192 c0_i32_122
  let v197 : BitVec 1 := Scalar.xori v195 v196
  let c0_i32_120 : BitVec 32 := 0#32
  let v194 : BitVec 1 := Scalar.cmpi .ne v193 c0_i32_120
  let v198 : BitVec 1 := Scalar.andi v197 v194
  let v199 : BitVec 32 := Scalar.addi v193 v192
  let v200 : BitVec 32 := Scalar.select v198 v199 v193
  let c8192_i32_133 : BitVec 32 := 8192#32
  let v216 : BitVec 32 := Scalar.muli v200 c8192_i32_133
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v217 : BitVec 32 := Scalar.addi v216 v33
  let c0_i32_134 : BitVec 32 := 0#32
  let v218 : BitVec 32 := Scalar.addi v217 c0_i32_134
  let c0_i32_335 : BitVec 32 := 0#32
  ![v218.toNat, 0]
def k0_dev11 (d0 : Dev nD) : Nat :=
  let c0_i32_332 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_331 : BitVec 32 := 16#32
  let v350 : BitVec 32 := Scalar.muli v9 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v352 : BitVec 32 := Scalar.muli v5 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_206 : BitVec 32 := 1#32
  let v282 : BitVec 1 := Scalar.cmpi .sle v5 c1_i32_206
  let v290 : BitVec 32 := Scalar.extui v282
  let c0_i32_226 : BitVec 32 := 0#32
  let v291 : BitVec 1 := Scalar.cmpi .ne v290 c0_i32_226
  v291

def k0_off17 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_54 : BitVec 32 := 1#32
  let v96 : BitVec 32 := Scalar.addi v5 c1_i32_54
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi v96 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c8192_i32_67 : BitVec 32 := 8192#32
  let v116 : BitVec 32 := Scalar.muli v106 c8192_i32_67
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v117 : BitVec 32 := Scalar.addi v116 v33
  let c0_i32_68 : BitVec 32 := 0#32
  let v118 : BitVec 32 := Scalar.addi v117 c0_i32_68
  let c0_i32_335 : BitVec 32 := 0#32
  ![v118.toNat, 0]
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_206 : BitVec 32 := 1#32
  let v282 : BitVec 1 := Scalar.cmpi .sle v5 c1_i32_206
  let c0_i32_17 : BitVec 32 := 0#32
  let v34 : BitVec 1 := Scalar.cmpi .sgt v5 c0_i32_17
  let v292 : BitVec 1 := Scalar.andi v282 v34
  let v293 : BitVec 32 := Scalar.extui v292
  let c0_i32_231 : BitVec 32 := 0#32
  let v294 : BitVec 1 := Scalar.cmpi .ne v293 c0_i32_231
  v294

def k0_off18 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_76 : BitVec 32 := 2#32
  let v130 : BitVec 32 := Scalar.addi v5 c2_i32_76
  let c4_i32_77 : BitVec 32 := 4#32
  let c0_i32_78 : BitVec 32 := 0#32
  let v131 : BitVec 1 := Scalar.cmpi .eq c4_i32_77 c0_i32_78
  let c1_i32_79 : BitVec 32 := 1#32
  let v132 : BitVec 32 := Scalar.select v131 c1_i32_79 c4_i32_77
  let v133 : BitVec 32 := Scalar.remsi v130 v132
  let c0_i32_81 : BitVec 32 := 0#32
  let v135 : BitVec 1 := Scalar.cmpi .slt v133 c0_i32_81
  let c0_i32_82 : BitVec 32 := 0#32
  let v136 : BitVec 1 := Scalar.cmpi .slt v132 c0_i32_82
  let v137 : BitVec 1 := Scalar.xori v135 v136
  let c0_i32_80 : BitVec 32 := 0#32
  let v134 : BitVec 1 := Scalar.cmpi .ne v133 c0_i32_80
  let v138 : BitVec 1 := Scalar.andi v137 v134
  let v139 : BitVec 32 := Scalar.addi v133 v132
  let v140 : BitVec 32 := Scalar.select v138 v139 v133
  let c8192_i32_89 : BitVec 32 := 8192#32
  let v150 : BitVec 32 := Scalar.muli v140 c8192_i32_89
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v151 : BitVec 32 := Scalar.addi v150 v33
  let c0_i32_90 : BitVec 32 := 0#32
  let v152 : BitVec 32 := Scalar.addi v151 c0_i32_90
  let c0_i32_335 : BitVec 32 := 0#32
  ![v152.toNat, 0]
def k0_dev12 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v350 : BitVec 32 := Scalar.muli v2 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_9 : BitVec 32 := 4#32
  let v21 : BitVec 32 := Scalar.addi v5 c4_i32_9
  let c1_i32_10 : BitVec 32 := 1#32
  let v22 : BitVec 32 := Scalar.subi v21 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c4_i32_333 : BitVec 32 := 4#32
  let v352 : BitVec 32 := Scalar.muli v32 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_206 : BitVec 32 := 1#32
  let v282 : BitVec 1 := Scalar.cmpi .sle v5 c1_i32_206
  let v295 : BitVec 32 := Scalar.extui v282
  let c0_i32_236 : BitVec 32 := 0#32
  let v296 : BitVec 1 := Scalar.cmpi .ne v295 c0_i32_236
  v296

def k0_off19 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v201 : BitVec 32 := Scalar.addi v5 c1_i32_123
  let c1_i32_124 : BitVec 32 := 1#32
  let v202 : BitVec 32 := Scalar.addi v201 c1_i32_124
  let c4_i32_125 : BitVec 32 := 4#32
  let c0_i32_126 : BitVec 32 := 0#32
  let v203 : BitVec 1 := Scalar.cmpi .eq c4_i32_125 c0_i32_126
  let c1_i32_127 : BitVec 32 := 1#32
  let v204 : BitVec 32 := Scalar.select v203 c1_i32_127 c4_i32_125
  let v205 : BitVec 32 := Scalar.remsi v202 v204
  let c0_i32_129 : BitVec 32 := 0#32
  let v207 : BitVec 1 := Scalar.cmpi .slt v205 c0_i32_129
  let c0_i32_130 : BitVec 32 := 0#32
  let v208 : BitVec 1 := Scalar.cmpi .slt v204 c0_i32_130
  let v209 : BitVec 1 := Scalar.xori v207 v208
  let c0_i32_128 : BitVec 32 := 0#32
  let v206 : BitVec 1 := Scalar.cmpi .ne v205 c0_i32_128
  let v210 : BitVec 1 := Scalar.andi v209 v206
  let v211 : BitVec 32 := Scalar.addi v205 v204
  let v212 : BitVec 32 := Scalar.select v210 v211 v205
  let c8192_i32_137 : BitVec 32 := 8192#32
  let v222 : BitVec 32 := Scalar.muli v212 c8192_i32_137
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v223 : BitVec 32 := Scalar.addi v222 v33
  let c0_i32_138 : BitVec 32 := 0#32
  let v224 : BitVec 32 := Scalar.addi v223 c0_i32_138
  let c0_i32_335 : BitVec 32 := 0#32
  ![v224.toNat, 0]
def k0_dev13 (d0 : Dev nD) : Nat :=
  let c0_i32_332 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_331 : BitVec 32 := 16#32
  let v350 : BitVec 32 := Scalar.muli v9 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v352 : BitVec 32 := Scalar.muli v5 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_237 : BitVec 32 := 3#32
  let v297 : BitVec 1 := Scalar.cmpi .sge v5 c3_i32_237
  let v299 : BitVec 32 := Scalar.extui v297
  let c0_i32_243 : BitVec 32 := 0#32
  let v300 : BitVec 1 := Scalar.cmpi .ne v299 c0_i32_243
  v300

def k0_off20 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_69 : BitVec 32 := 2#32
  let v119 : BitVec 32 := Scalar.subi v5 c2_i32_69
  let c4_i32_70 : BitVec 32 := 4#32
  let c0_i32_71 : BitVec 32 := 0#32
  let v120 : BitVec 1 := Scalar.cmpi .eq c4_i32_70 c0_i32_71
  let c1_i32_72 : BitVec 32 := 1#32
  let v121 : BitVec 32 := Scalar.select v120 c1_i32_72 c4_i32_70
  let v122 : BitVec 32 := Scalar.remsi v119 v121
  let c0_i32_74 : BitVec 32 := 0#32
  let v124 : BitVec 1 := Scalar.cmpi .slt v122 c0_i32_74
  let c0_i32_75 : BitVec 32 := 0#32
  let v125 : BitVec 1 := Scalar.cmpi .slt v121 c0_i32_75
  let v126 : BitVec 1 := Scalar.xori v124 v125
  let c0_i32_73 : BitVec 32 := 0#32
  let v123 : BitVec 1 := Scalar.cmpi .ne v122 c0_i32_73
  let v127 : BitVec 1 := Scalar.andi v126 v123
  let v128 : BitVec 32 := Scalar.addi v122 v121
  let v129 : BitVec 32 := Scalar.select v127 v128 v122
  let c8192_i32_85 : BitVec 32 := 8192#32
  let v144 : BitVec 32 := Scalar.muli v129 c8192_i32_85
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v145 : BitVec 32 := Scalar.addi v144 v33
  let c0_i32_86 : BitVec 32 := 0#32
  let v146 : BitVec 32 := Scalar.addi v145 c0_i32_86
  let c0_i32_335 : BitVec 32 := 0#32
  ![v146.toNat, 0]
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_237 : BitVec 32 := 3#32
  let v297 : BitVec 1 := Scalar.cmpi .sge v5 c3_i32_237
  let v301 : BitVec 32 := Scalar.extui v297
  let c0_i32_248 : BitVec 32 := 0#32
  let v302 : BitVec 1 := Scalar.cmpi .ne v301 c0_i32_248
  v302

def k0_off21 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v225 : BitVec 32 := Scalar.subi v5 c1_i32_139
  let c2_i32_140 : BitVec 32 := 2#32
  let v226 : BitVec 32 := Scalar.subi v225 c2_i32_140
  let c4_i32_141 : BitVec 32 := 4#32
  let c0_i32_142 : BitVec 32 := 0#32
  let v227 : BitVec 1 := Scalar.cmpi .eq c4_i32_141 c0_i32_142
  let c1_i32_143 : BitVec 32 := 1#32
  let v228 : BitVec 32 := Scalar.select v227 c1_i32_143 c4_i32_141
  let v229 : BitVec 32 := Scalar.remsi v226 v228
  let c0_i32_145 : BitVec 32 := 0#32
  let v231 : BitVec 1 := Scalar.cmpi .slt v229 c0_i32_145
  let c0_i32_146 : BitVec 32 := 0#32
  let v232 : BitVec 1 := Scalar.cmpi .slt v228 c0_i32_146
  let v233 : BitVec 1 := Scalar.xori v231 v232
  let c0_i32_144 : BitVec 32 := 0#32
  let v230 : BitVec 1 := Scalar.cmpi .ne v229 c0_i32_144
  let v234 : BitVec 1 := Scalar.andi v233 v230
  let v235 : BitVec 32 := Scalar.addi v229 v228
  let v236 : BitVec 32 := Scalar.select v234 v235 v229
  let c8192_i32_157 : BitVec 32 := 8192#32
  let v252 : BitVec 32 := Scalar.muli v236 c8192_i32_157
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v253 : BitVec 32 := Scalar.addi v252 v33
  let c0_i32_158 : BitVec 32 := 0#32
  let v254 : BitVec 32 := Scalar.addi v253 c0_i32_158
  let c0_i32_335 : BitVec 32 := 0#32
  ![v254.toNat, 0]
def k0_dev14 (d0 : Dev nD) : Nat :=
  let c0_i32_332 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_331 : BitVec 32 := 16#32
  let v350 : BitVec 32 := Scalar.muli v9 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v352 : BitVec 32 := Scalar.muli v5 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_238 : BitVec 32 := 0#32
  let v298 : BitVec 1 := Scalar.cmpi .sle v5 c0_i32_238
  let v303 : BitVec 32 := Scalar.extui v298
  let c0_i32_253 : BitVec 32 := 0#32
  let v304 : BitVec 1 := Scalar.cmpi .ne v303 c0_i32_253
  v304

def k0_off22 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_76 : BitVec 32 := 2#32
  let v130 : BitVec 32 := Scalar.addi v5 c2_i32_76
  let c4_i32_77 : BitVec 32 := 4#32
  let c0_i32_78 : BitVec 32 := 0#32
  let v131 : BitVec 1 := Scalar.cmpi .eq c4_i32_77 c0_i32_78
  let c1_i32_79 : BitVec 32 := 1#32
  let v132 : BitVec 32 := Scalar.select v131 c1_i32_79 c4_i32_77
  let v133 : BitVec 32 := Scalar.remsi v130 v132
  let c0_i32_81 : BitVec 32 := 0#32
  let v135 : BitVec 1 := Scalar.cmpi .slt v133 c0_i32_81
  let c0_i32_82 : BitVec 32 := 0#32
  let v136 : BitVec 1 := Scalar.cmpi .slt v132 c0_i32_82
  let v137 : BitVec 1 := Scalar.xori v135 v136
  let c0_i32_80 : BitVec 32 := 0#32
  let v134 : BitVec 1 := Scalar.cmpi .ne v133 c0_i32_80
  let v138 : BitVec 1 := Scalar.andi v137 v134
  let v139 : BitVec 32 := Scalar.addi v133 v132
  let v140 : BitVec 32 := Scalar.select v138 v139 v133
  let c8192_i32_89 : BitVec 32 := 8192#32
  let v150 : BitVec 32 := Scalar.muli v140 c8192_i32_89
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v151 : BitVec 32 := Scalar.addi v150 v33
  let c0_i32_90 : BitVec 32 := 0#32
  let v152 : BitVec 32 := Scalar.addi v151 c0_i32_90
  let c0_i32_335 : BitVec 32 := 0#32
  ![v152.toNat, 0]
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_238 : BitVec 32 := 0#32
  let v298 : BitVec 1 := Scalar.cmpi .sle v5 c0_i32_238
  let v305 : BitVec 32 := Scalar.extui v298
  let c0_i32_257 : BitVec 32 := 0#32
  let v306 : BitVec 1 := Scalar.cmpi .ne v305 c0_i32_257
  v306

def k0_off23 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_147 : BitVec 32 := 1#32
  let v237 : BitVec 32 := Scalar.addi v5 c1_i32_147
  let c2_i32_148 : BitVec 32 := 2#32
  let v238 : BitVec 32 := Scalar.addi v237 c2_i32_148
  let c4_i32_149 : BitVec 32 := 4#32
  let c0_i32_150 : BitVec 32 := 0#32
  let v239 : BitVec 1 := Scalar.cmpi .eq c4_i32_149 c0_i32_150
  let c1_i32_151 : BitVec 32 := 1#32
  let v240 : BitVec 32 := Scalar.select v239 c1_i32_151 c4_i32_149
  let v241 : BitVec 32 := Scalar.remsi v238 v240
  let c0_i32_153 : BitVec 32 := 0#32
  let v243 : BitVec 1 := Scalar.cmpi .slt v241 c0_i32_153
  let c0_i32_154 : BitVec 32 := 0#32
  let v244 : BitVec 1 := Scalar.cmpi .slt v240 c0_i32_154
  let v245 : BitVec 1 := Scalar.xori v243 v244
  let c0_i32_152 : BitVec 32 := 0#32
  let v242 : BitVec 1 := Scalar.cmpi .ne v241 c0_i32_152
  let v246 : BitVec 1 := Scalar.andi v245 v242
  let v247 : BitVec 32 := Scalar.addi v241 v240
  let v248 : BitVec 32 := Scalar.select v246 v247 v241
  let c8192_i32_161 : BitVec 32 := 8192#32
  let v258 : BitVec 32 := Scalar.muli v248 c8192_i32_161
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v259 : BitVec 32 := Scalar.addi v258 v33
  let c0_i32_162 : BitVec 32 := 0#32
  let v260 : BitVec 32 := Scalar.addi v259 c0_i32_162
  let c0_i32_335 : BitVec 32 := 0#32
  ![v260.toNat, 0]
def k0_dev15 (d0 : Dev nD) : Nat :=
  let c0_i32_332 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_331 : BitVec 32 := 16#32
  let v350 : BitVec 32 := Scalar.muli v9 c16_i32_331
  let v351 : BitVec 32 := Scalar.addi c0_i32_332 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v352 : BitVec 32 := Scalar.muli v5 c4_i32_333
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v354 : BitVec 32 := Scalar.muli v8 c1_i32_334
  let v355 : BitVec 32 := Scalar.addi v353 v354
  v355.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_258 : BitVec 32 := 1#32
  let v307 : BitVec 1 := Scalar.cmpi .sge v5 c1_i32_258
  let v309 : BitVec 32 := Scalar.extui v307
  let c0_i32_264 : BitVec 32 := 0#32
  let v310 : BitVec 1 := Scalar.cmpi .ne v309 c0_i32_264
  v310

def k0_off24 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_91 : BitVec 32 := 1#32
  let v153 : BitVec 32 := Scalar.subi v5 c1_i32_91
  let c0_i32_92 : BitVec 32 := 0#32
  let v154 : BitVec 32 := Scalar.subi v153 c0_i32_92
  let c4_i32_93 : BitVec 32 := 4#32
  let c0_i32_94 : BitVec 32 := 0#32
  let v155 : BitVec 1 := Scalar.cmpi .eq c4_i32_93 c0_i32_94
  let c1_i32_95 : BitVec 32 := 1#32
  let v156 : BitVec 32 := Scalar.select v155 c1_i32_95 c4_i32_93
  let v157 : BitVec 32 := Scalar.remsi v154 v156
  let c0_i32_97 : BitVec 32 := 0#32
  let v159 : BitVec 1 := Scalar.cmpi .slt v157 c0_i32_97
  let c0_i32_98 : BitVec 32 := 0#32
  let v160 : BitVec 1 := Scalar.cmpi .slt v156 c0_i32_98
  let v161 : BitVec 1 := Scalar.xori v159 v160
  let c0_i32_96 : BitVec 32 := 0#32
  let v158 : BitVec 1 := Scalar.cmpi .ne v157 c0_i32_96
  let v162 : BitVec 1 := Scalar.andi v161 v158
  let v163 : BitVec 32 := Scalar.addi v157 v156
  let v164 : BitVec 32 := Scalar.select v162 v163 v157
  let c8192_i32_107 : BitVec 32 := 8192#32
  let v177 : BitVec 32 := Scalar.muli v164 c8192_i32_107
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v178 : BitVec 32 := Scalar.addi v177 v33
  let c0_i32_108 : BitVec 32 := 0#32
  let v179 : BitVec 32 := Scalar.addi v178 c0_i32_108
  let c0_i32_332 : BitVec 32 := 0#32
  ![v179.toNat, 0]
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_259 : BitVec 32 := 2#32
  let v308 : BitVec 1 := Scalar.cmpi .sle v5 c2_i32_259
  let v311 : BitVec 32 := Scalar.extui v308
  let c0_i32_269 : BitVec 32 := 0#32
  let v312 : BitVec 1 := Scalar.cmpi .ne v311 c0_i32_269
  v312

def k0_off25 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_99 : BitVec 32 := 1#32
  let v165 : BitVec 32 := Scalar.addi v5 c1_i32_99
  let c0_i32_100 : BitVec 32 := 0#32
  let v166 : BitVec 32 := Scalar.addi v165 c0_i32_100
  let c4_i32_101 : BitVec 32 := 4#32
  let c0_i32_102 : BitVec 32 := 0#32
  let v167 : BitVec 1 := Scalar.cmpi .eq c4_i32_101 c0_i32_102
  let c1_i32_103 : BitVec 32 := 1#32
  let v168 : BitVec 32 := Scalar.select v167 c1_i32_103 c4_i32_101
  let v169 : BitVec 32 := Scalar.remsi v166 v168
  let c0_i32_105 : BitVec 32 := 0#32
  let v171 : BitVec 1 := Scalar.cmpi .slt v169 c0_i32_105
  let c0_i32_106 : BitVec 32 := 0#32
  let v172 : BitVec 1 := Scalar.cmpi .slt v168 c0_i32_106
  let v173 : BitVec 1 := Scalar.xori v171 v172
  let c0_i32_104 : BitVec 32 := 0#32
  let v170 : BitVec 1 := Scalar.cmpi .ne v169 c0_i32_104
  let v174 : BitVec 1 := Scalar.andi v173 v170
  let v175 : BitVec 32 := Scalar.addi v169 v168
  let v176 : BitVec 32 := Scalar.select v174 v175 v169
  let c8192_i32_111 : BitVec 32 := 8192#32
  let v183 : BitVec 32 := Scalar.muli v176 c8192_i32_111
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v184 : BitVec 32 := Scalar.addi v183 v33
  let c0_i32_112 : BitVec 32 := 0#32
  let v185 : BitVec 32 := Scalar.addi v184 c0_i32_112
  let c0_i32_332 : BitVec 32 := 0#32
  ![v185.toNat, 0]
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_270 : BitVec 32 := 2#32
  let v313 : BitVec 1 := Scalar.cmpi .sge v5 c2_i32_270
  let v315 : BitVec 32 := Scalar.extui v313
  let c0_i32_276 : BitVec 32 := 0#32
  let v316 : BitVec 1 := Scalar.cmpi .ne v315 c0_i32_276
  v316

def k0_off26 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_115 : BitVec 32 := 1#32
  let v189 : BitVec 32 := Scalar.subi v5 c1_i32_115
  let c1_i32_116 : BitVec 32 := 1#32
  let v190 : BitVec 32 := Scalar.subi v189 c1_i32_116
  let c4_i32_117 : BitVec 32 := 4#32
  let c0_i32_118 : BitVec 32 := 0#32
  let v191 : BitVec 1 := Scalar.cmpi .eq c4_i32_117 c0_i32_118
  let c1_i32_119 : BitVec 32 := 1#32
  let v192 : BitVec 32 := Scalar.select v191 c1_i32_119 c4_i32_117
  let v193 : BitVec 32 := Scalar.remsi v190 v192
  let c0_i32_121 : BitVec 32 := 0#32
  let v195 : BitVec 1 := Scalar.cmpi .slt v193 c0_i32_121
  let c0_i32_122 : BitVec 32 := 0#32
  let v196 : BitVec 1 := Scalar.cmpi .slt v192 c0_i32_122
  let v197 : BitVec 1 := Scalar.xori v195 v196
  let c0_i32_120 : BitVec 32 := 0#32
  let v194 : BitVec 1 := Scalar.cmpi .ne v193 c0_i32_120
  let v198 : BitVec 1 := Scalar.andi v197 v194
  let v199 : BitVec 32 := Scalar.addi v193 v192
  let v200 : BitVec 32 := Scalar.select v198 v199 v193
  let c8192_i32_131 : BitVec 32 := 8192#32
  let v213 : BitVec 32 := Scalar.muli v200 c8192_i32_131
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v214 : BitVec 32 := Scalar.addi v213 v33
  let c0_i32_132 : BitVec 32 := 0#32
  let v215 : BitVec 32 := Scalar.addi v214 c0_i32_132
  let c0_i32_332 : BitVec 32 := 0#32
  ![v215.toNat, 0]
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_271 : BitVec 32 := 1#32
  let v314 : BitVec 1 := Scalar.cmpi .sle v5 c1_i32_271
  let v317 : BitVec 32 := Scalar.extui v314
  let c0_i32_281 : BitVec 32 := 0#32
  let v318 : BitVec 1 := Scalar.cmpi .ne v317 c0_i32_281
  v318

def k0_off27 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v201 : BitVec 32 := Scalar.addi v5 c1_i32_123
  let c1_i32_124 : BitVec 32 := 1#32
  let v202 : BitVec 32 := Scalar.addi v201 c1_i32_124
  let c4_i32_125 : BitVec 32 := 4#32
  let c0_i32_126 : BitVec 32 := 0#32
  let v203 : BitVec 1 := Scalar.cmpi .eq c4_i32_125 c0_i32_126
  let c1_i32_127 : BitVec 32 := 1#32
  let v204 : BitVec 32 := Scalar.select v203 c1_i32_127 c4_i32_125
  let v205 : BitVec 32 := Scalar.remsi v202 v204
  let c0_i32_129 : BitVec 32 := 0#32
  let v207 : BitVec 1 := Scalar.cmpi .slt v205 c0_i32_129
  let c0_i32_130 : BitVec 32 := 0#32
  let v208 : BitVec 1 := Scalar.cmpi .slt v204 c0_i32_130
  let v209 : BitVec 1 := Scalar.xori v207 v208
  let c0_i32_128 : BitVec 32 := 0#32
  let v206 : BitVec 1 := Scalar.cmpi .ne v205 c0_i32_128
  let v210 : BitVec 1 := Scalar.andi v209 v206
  let v211 : BitVec 32 := Scalar.addi v205 v204
  let v212 : BitVec 32 := Scalar.select v210 v211 v205
  let c8192_i32_135 : BitVec 32 := 8192#32
  let v219 : BitVec 32 := Scalar.muli v212 c8192_i32_135
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v220 : BitVec 32 := Scalar.addi v219 v33
  let c0_i32_136 : BitVec 32 := 0#32
  let v221 : BitVec 32 := Scalar.addi v220 c0_i32_136
  let c0_i32_332 : BitVec 32 := 0#32
  ![v221.toNat, 0]
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_282 : BitVec 32 := 3#32
  let v319 : BitVec 1 := Scalar.cmpi .sge v5 c3_i32_282
  let v321 : BitVec 32 := Scalar.extui v319
  let c0_i32_288 : BitVec 32 := 0#32
  let v322 : BitVec 1 := Scalar.cmpi .ne v321 c0_i32_288
  v322

def k0_off28 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v225 : BitVec 32 := Scalar.subi v5 c1_i32_139
  let c2_i32_140 : BitVec 32 := 2#32
  let v226 : BitVec 32 := Scalar.subi v225 c2_i32_140
  let c4_i32_141 : BitVec 32 := 4#32
  let c0_i32_142 : BitVec 32 := 0#32
  let v227 : BitVec 1 := Scalar.cmpi .eq c4_i32_141 c0_i32_142
  let c1_i32_143 : BitVec 32 := 1#32
  let v228 : BitVec 32 := Scalar.select v227 c1_i32_143 c4_i32_141
  let v229 : BitVec 32 := Scalar.remsi v226 v228
  let c0_i32_145 : BitVec 32 := 0#32
  let v231 : BitVec 1 := Scalar.cmpi .slt v229 c0_i32_145
  let c0_i32_146 : BitVec 32 := 0#32
  let v232 : BitVec 1 := Scalar.cmpi .slt v228 c0_i32_146
  let v233 : BitVec 1 := Scalar.xori v231 v232
  let c0_i32_144 : BitVec 32 := 0#32
  let v230 : BitVec 1 := Scalar.cmpi .ne v229 c0_i32_144
  let v234 : BitVec 1 := Scalar.andi v233 v230
  let v235 : BitVec 32 := Scalar.addi v229 v228
  let v236 : BitVec 32 := Scalar.select v234 v235 v229
  let c8192_i32_155 : BitVec 32 := 8192#32
  let v249 : BitVec 32 := Scalar.muli v236 c8192_i32_155
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v250 : BitVec 32 := Scalar.addi v249 v33
  let c0_i32_156 : BitVec 32 := 0#32
  let v251 : BitVec 32 := Scalar.addi v250 c0_i32_156
  let c0_i32_332 : BitVec 32 := 0#32
  ![v251.toNat, 0]
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_283 : BitVec 32 := 0#32
  let v320 : BitVec 1 := Scalar.cmpi .sle v5 c0_i32_283
  let v323 : BitVec 32 := Scalar.extui v320
  let c0_i32_293 : BitVec 32 := 0#32
  let v324 : BitVec 1 := Scalar.cmpi .ne v323 c0_i32_293
  v324

def k0_off29 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_147 : BitVec 32 := 1#32
  let v237 : BitVec 32 := Scalar.addi v5 c1_i32_147
  let c2_i32_148 : BitVec 32 := 2#32
  let v238 : BitVec 32 := Scalar.addi v237 c2_i32_148
  let c4_i32_149 : BitVec 32 := 4#32
  let c0_i32_150 : BitVec 32 := 0#32
  let v239 : BitVec 1 := Scalar.cmpi .eq c4_i32_149 c0_i32_150
  let c1_i32_151 : BitVec 32 := 1#32
  let v240 : BitVec 32 := Scalar.select v239 c1_i32_151 c4_i32_149
  let v241 : BitVec 32 := Scalar.remsi v238 v240
  let c0_i32_153 : BitVec 32 := 0#32
  let v243 : BitVec 1 := Scalar.cmpi .slt v241 c0_i32_153
  let c0_i32_154 : BitVec 32 := 0#32
  let v244 : BitVec 1 := Scalar.cmpi .slt v240 c0_i32_154
  let v245 : BitVec 1 := Scalar.xori v243 v244
  let c0_i32_152 : BitVec 32 := 0#32
  let v242 : BitVec 1 := Scalar.cmpi .ne v241 c0_i32_152
  let v246 : BitVec 1 := Scalar.andi v245 v242
  let v247 : BitVec 32 := Scalar.addi v241 v240
  let v248 : BitVec 32 := Scalar.select v246 v247 v241
  let c8192_i32_159 : BitVec 32 := 8192#32
  let v255 : BitVec 32 := Scalar.muli v248 c8192_i32_159
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v256 : BitVec 32 := Scalar.addi v255 v33
  let c0_i32_160 : BitVec 32 := 0#32
  let v257 : BitVec 32 := Scalar.addi v256 c0_i32_160
  let c0_i32_332 : BitVec 32 := 0#32
  ![v257.toNat, 0]
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v35 : BitVec 1 := Scalar.cmpi .slt v5 c3_i32
  let c0_i32_294 : BitVec 32 := 0#32
  let v325 : BitVec 1 := Scalar.cmpi .sge v5 c0_i32_294
  let v326 : BitVec 1 := Scalar.andi v35 v325
  let v329 : BitVec 32 := Scalar.extui v326
  let c0_i32_300 : BitVec 32 := 0#32
  let v330 : BitVec 1 := Scalar.cmpi .ne v329 c0_i32_300
  v330

def k0_off30 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let c0_i32_42 : BitVec 32 := 0#32
  let v78 : BitVec 32 := Scalar.addi v33 c0_i32_42
  let c0_i32_332 : BitVec 32 := 0#32
  ![v78.toNat, 0]
def k0_off31 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_28 : BitVec 32 := 0#32
  let v56 : BitVec 32 := Scalar.subi v5 c0_i32_28
  let c4_i32_29 : BitVec 32 := 4#32
  let c0_i32_30 : BitVec 32 := 0#32
  let v57 : BitVec 1 := Scalar.cmpi .eq c4_i32_29 c0_i32_30
  let c1_i32_31 : BitVec 32 := 1#32
  let v58 : BitVec 32 := Scalar.select v57 c1_i32_31 c4_i32_29
  let v59 : BitVec 32 := Scalar.remsi v56 v58
  let c0_i32_33 : BitVec 32 := 0#32
  let v61 : BitVec 1 := Scalar.cmpi .slt v59 c0_i32_33
  let c0_i32_34 : BitVec 32 := 0#32
  let v62 : BitVec 1 := Scalar.cmpi .slt v58 c0_i32_34
  let v63 : BitVec 1 := Scalar.xori v61 v62
  let c0_i32_32 : BitVec 32 := 0#32
  let v60 : BitVec 1 := Scalar.cmpi .ne v59 c0_i32_32
  let v64 : BitVec 1 := Scalar.andi v63 v60
  let v65 : BitVec 32 := Scalar.addi v59 v58
  let v66 : BitVec 32 := Scalar.select v64 v65 v59
  let c8192_i32_43 : BitVec 32 := 8192#32
  let v79 : BitVec 32 := Scalar.muli v66 c8192_i32_43
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v80 : BitVec 32 := Scalar.addi v79 v33
  let c0_i32_44 : BitVec 32 := 0#32
  let v81 : BitVec 32 := Scalar.addi v80 c0_i32_44
  let c0_i32_333 : BitVec 32 := 0#32
  ![v81.toNat, 0]
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_17 : BitVec 32 := 0#32
  let v34 : BitVec 1 := Scalar.cmpi .sgt v5 c0_i32_17
  let c3_i32_295 : BitVec 32 := 3#32
  let v327 : BitVec 1 := Scalar.cmpi .sle v5 c3_i32_295
  let v328 : BitVec 1 := Scalar.andi v34 v327
  let v331 : BitVec 32 := Scalar.extui v328
  let c0_i32_305 : BitVec 32 := 0#32
  let v332 : BitVec 1 := Scalar.cmpi .ne v331 c0_i32_305
  v332

def k0_off32 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let c0_i32_42 : BitVec 32 := 0#32
  let v78 : BitVec 32 := Scalar.addi v33 c0_i32_42
  let c0_i32_332 : BitVec 32 := 0#32
  ![v78.toNat, 0]
def k0_off33 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_35 : BitVec 32 := 0#32
  let v67 : BitVec 32 := Scalar.addi v5 c0_i32_35
  let c4_i32_36 : BitVec 32 := 4#32
  let c0_i32_37 : BitVec 32 := 0#32
  let v68 : BitVec 1 := Scalar.cmpi .eq c4_i32_36 c0_i32_37
  let c1_i32_38 : BitVec 32 := 1#32
  let v69 : BitVec 32 := Scalar.select v68 c1_i32_38 c4_i32_36
  let v70 : BitVec 32 := Scalar.remsi v67 v69
  let c0_i32_40 : BitVec 32 := 0#32
  let v72 : BitVec 1 := Scalar.cmpi .slt v70 c0_i32_40
  let c0_i32_41 : BitVec 32 := 0#32
  let v73 : BitVec 1 := Scalar.cmpi .slt v69 c0_i32_41
  let v74 : BitVec 1 := Scalar.xori v72 v73
  let c0_i32_39 : BitVec 32 := 0#32
  let v71 : BitVec 1 := Scalar.cmpi .ne v70 c0_i32_39
  let v75 : BitVec 1 := Scalar.andi v74 v71
  let v76 : BitVec 32 := Scalar.addi v70 v69
  let v77 : BitVec 32 := Scalar.select v75 v76 v70
  let c8192_i32_45 : BitVec 32 := 8192#32
  let v82 : BitVec 32 := Scalar.muli v77 c8192_i32_45
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v83 : BitVec 32 := Scalar.addi v82 v33
  let c0_i32_46 : BitVec 32 := 0#32
  let v84 : BitVec 32 := Scalar.addi v83 c0_i32_46
  let c0_i32_333 : BitVec 32 := 0#32
  ![v84.toNat, 0]
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v35 : BitVec 1 := Scalar.cmpi .slt v5 c3_i32
  let c1_i32_306 : BitVec 32 := 1#32
  let v333 : BitVec 1 := Scalar.cmpi .sge v5 c1_i32_306
  let v334 : BitVec 1 := Scalar.andi v35 v333
  let v337 : BitVec 32 := Scalar.extui v334
  let c0_i32_312 : BitVec 32 := 0#32
  let v338 : BitVec 1 := Scalar.cmpi .ne v337 c0_i32_312
  v338

def k0_off34 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_47 : BitVec 32 := 1#32
  let v85 : BitVec 32 := Scalar.subi v5 c1_i32_47
  let c4_i32_48 : BitVec 32 := 4#32
  let c0_i32_49 : BitVec 32 := 0#32
  let v86 : BitVec 1 := Scalar.cmpi .eq c4_i32_48 c0_i32_49
  let c1_i32_50 : BitVec 32 := 1#32
  let v87 : BitVec 32 := Scalar.select v86 c1_i32_50 c4_i32_48
  let v88 : BitVec 32 := Scalar.remsi v85 v87
  let c0_i32_52 : BitVec 32 := 0#32
  let v90 : BitVec 1 := Scalar.cmpi .slt v88 c0_i32_52
  let c0_i32_53 : BitVec 32 := 0#32
  let v91 : BitVec 1 := Scalar.cmpi .slt v87 c0_i32_53
  let v92 : BitVec 1 := Scalar.xori v90 v91
  let c0_i32_51 : BitVec 32 := 0#32
  let v89 : BitVec 1 := Scalar.cmpi .ne v88 c0_i32_51
  let v93 : BitVec 1 := Scalar.andi v92 v89
  let v94 : BitVec 32 := Scalar.addi v88 v87
  let v95 : BitVec 32 := Scalar.select v93 v94 v88
  let c8192_i32_61 : BitVec 32 := 8192#32
  let v107 : BitVec 32 := Scalar.muli v95 c8192_i32_61
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v108 : BitVec 32 := Scalar.addi v107 v33
  let c0_i32_62 : BitVec 32 := 0#32
  let v109 : BitVec 32 := Scalar.addi v108 c0_i32_62
  let c0_i32_332 : BitVec 32 := 0#32
  ![v109.toNat, 0]
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_17 : BitVec 32 := 0#32
  let v34 : BitVec 1 := Scalar.cmpi .sgt v5 c0_i32_17
  let c2_i32_307 : BitVec 32 := 2#32
  let v335 : BitVec 1 := Scalar.cmpi .sle v5 c2_i32_307
  let v336 : BitVec 1 := Scalar.andi v34 v335
  let v339 : BitVec 32 := Scalar.extui v336
  let c0_i32_317 : BitVec 32 := 0#32
  let v340 : BitVec 1 := Scalar.cmpi .ne v339 c0_i32_317
  v340

def k0_off35 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_54 : BitVec 32 := 1#32
  let v96 : BitVec 32 := Scalar.addi v5 c1_i32_54
  let c4_i32_55 : BitVec 32 := 4#32
  let c0_i32_56 : BitVec 32 := 0#32
  let v97 : BitVec 1 := Scalar.cmpi .eq c4_i32_55 c0_i32_56
  let c1_i32_57 : BitVec 32 := 1#32
  let v98 : BitVec 32 := Scalar.select v97 c1_i32_57 c4_i32_55
  let v99 : BitVec 32 := Scalar.remsi v96 v98
  let c0_i32_59 : BitVec 32 := 0#32
  let v101 : BitVec 1 := Scalar.cmpi .slt v99 c0_i32_59
  let c0_i32_60 : BitVec 32 := 0#32
  let v102 : BitVec 1 := Scalar.cmpi .slt v98 c0_i32_60
  let v103 : BitVec 1 := Scalar.xori v101 v102
  let c0_i32_58 : BitVec 32 := 0#32
  let v100 : BitVec 1 := Scalar.cmpi .ne v99 c0_i32_58
  let v104 : BitVec 1 := Scalar.andi v103 v100
  let v105 : BitVec 32 := Scalar.addi v99 v98
  let v106 : BitVec 32 := Scalar.select v104 v105 v99
  let c8192_i32_65 : BitVec 32 := 8192#32
  let v113 : BitVec 32 := Scalar.muli v106 c8192_i32_65
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v114 : BitVec 32 := Scalar.addi v113 v33
  let c0_i32_66 : BitVec 32 := 0#32
  let v115 : BitVec 32 := Scalar.addi v114 c0_i32_66
  let c0_i32_332 : BitVec 32 := 0#32
  ![v115.toNat, 0]
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v35 : BitVec 1 := Scalar.cmpi .slt v5 c3_i32
  let c2_i32_318 : BitVec 32 := 2#32
  let v341 : BitVec 1 := Scalar.cmpi .sge v5 c2_i32_318
  let v342 : BitVec 1 := Scalar.andi v35 v341
  let v345 : BitVec 32 := Scalar.extui v342
  let c0_i32_324 : BitVec 32 := 0#32
  let v346 : BitVec 1 := Scalar.cmpi .ne v345 c0_i32_324
  v346

def k0_off36 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_69 : BitVec 32 := 2#32
  let v119 : BitVec 32 := Scalar.subi v5 c2_i32_69
  let c4_i32_70 : BitVec 32 := 4#32
  let c0_i32_71 : BitVec 32 := 0#32
  let v120 : BitVec 1 := Scalar.cmpi .eq c4_i32_70 c0_i32_71
  let c1_i32_72 : BitVec 32 := 1#32
  let v121 : BitVec 32 := Scalar.select v120 c1_i32_72 c4_i32_70
  let v122 : BitVec 32 := Scalar.remsi v119 v121
  let c0_i32_74 : BitVec 32 := 0#32
  let v124 : BitVec 1 := Scalar.cmpi .slt v122 c0_i32_74
  let c0_i32_75 : BitVec 32 := 0#32
  let v125 : BitVec 1 := Scalar.cmpi .slt v121 c0_i32_75
  let v126 : BitVec 1 := Scalar.xori v124 v125
  let c0_i32_73 : BitVec 32 := 0#32
  let v123 : BitVec 1 := Scalar.cmpi .ne v122 c0_i32_73
  let v127 : BitVec 1 := Scalar.andi v126 v123
  let v128 : BitVec 32 := Scalar.addi v122 v121
  let v129 : BitVec 32 := Scalar.select v127 v128 v122
  let c8192_i32_83 : BitVec 32 := 8192#32
  let v141 : BitVec 32 := Scalar.muli v129 c8192_i32_83
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v142 : BitVec 32 := Scalar.addi v141 v33
  let c0_i32_84 : BitVec 32 := 0#32
  let v143 : BitVec 32 := Scalar.addi v142 c0_i32_84
  let c0_i32_332 : BitVec 32 := 0#32
  ![v143.toNat, 0]
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_17 : BitVec 32 := 0#32
  let v34 : BitVec 1 := Scalar.cmpi .sgt v5 c0_i32_17
  let c1_i32_319 : BitVec 32 := 1#32
  let v343 : BitVec 1 := Scalar.cmpi .sle v5 c1_i32_319
  let v344 : BitVec 1 := Scalar.andi v34 v343
  let v347 : BitVec 32 := Scalar.extui v344
  let c0_i32_329 : BitVec 32 := 0#32
  let v348 : BitVec 1 := Scalar.cmpi .ne v347 c0_i32_329
  v348

def k0_off37 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_76 : BitVec 32 := 2#32
  let v130 : BitVec 32 := Scalar.addi v5 c2_i32_76
  let c4_i32_77 : BitVec 32 := 4#32
  let c0_i32_78 : BitVec 32 := 0#32
  let v131 : BitVec 1 := Scalar.cmpi .eq c4_i32_77 c0_i32_78
  let c1_i32_79 : BitVec 32 := 1#32
  let v132 : BitVec 32 := Scalar.select v131 c1_i32_79 c4_i32_77
  let v133 : BitVec 32 := Scalar.remsi v130 v132
  let c0_i32_81 : BitVec 32 := 0#32
  let v135 : BitVec 1 := Scalar.cmpi .slt v133 c0_i32_81
  let c0_i32_82 : BitVec 32 := 0#32
  let v136 : BitVec 1 := Scalar.cmpi .slt v132 c0_i32_82
  let v137 : BitVec 1 := Scalar.xori v135 v136
  let c0_i32_80 : BitVec 32 := 0#32
  let v134 : BitVec 1 := Scalar.cmpi .ne v133 c0_i32_80
  let v138 : BitVec 1 := Scalar.andi v137 v134
  let v139 : BitVec 32 := Scalar.addi v133 v132
  let v140 : BitVec 32 := Scalar.select v138 v139 v133
  let c8192_i32_87 : BitVec 32 := 8192#32
  let v147 : BitVec 32 := Scalar.muli v140 c8192_i32_87
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v33 : BitVec 32 := Scalar.muli v2 c4096_i32
  let v148 : BitVec 32 := Scalar.addi v147 v33
  let c0_i32_88 : BitVec 32 := 0#32
  let v149 : BitVec 32 := Scalar.addi v148 c0_i32_88
  let c0_i32_332 : BitVec 32 := 0#32
  ![v149.toNat, 0]
-- ==== Reference.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The arithmetic of the mesh. Device `c` of the 2 × 4 × 4 mesh stands at (x, y, z) = (c / 16, c / 4 % 4, c % 4). This
module names the devices a device talks to, the twelve transfers its program may start, and the rows each of them
moves, and proves that the conditions, device numbers and offsets the program computes are these.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.KernelIdeal.Points

@[expose] public section

namespace Cert.Gather

open Cert.KernelIdeal Cert.KernelIdeal.Gen
open Idealize.ShloMosaic Idealize.ShloMosaic.TcCoe

/-! ## Devices -/

/-- The place of a device along the mesh's `y` axis: which block of the array it starts with. -/
def yOf (c : Dev nD) : ℕ := c.val / 4 % 4
/-- The place of a device along the mesh's `x` axis: which half of a block it carries along the line. -/
def xOf (c : Dev nD) : ℕ := c.val / 16

/-- The device with the other `x` and the same `y` and `z`. -/
def partner (c : Dev nD) : Dev nD := ⟨(c.val + 16) % 32, Nat.mod_lt _ (by decide)⟩
/-- The next device along `y` (from the last one, the first). -/
def up (c : Dev nD) : Dev nD := ⟨(16 * (c.val / 16) + 4 * ((c.val / 4 + 1) % 4) + c.val % 4) % 32, Nat.mod_lt _ (by decide)⟩
/-- The device before along `y` (from the first one, the last). -/
def down (c : Dev nD) : Dev nD := ⟨(16 * (c.val / 16) + 4 * ((c.val / 4 + 3) % 4) + c.val % 4) % 32, Nat.mod_lt _ (by decide)⟩

theorem partner_partner : ∀ c, partner (partner c) = c := by decide
theorem down_up : ∀ c, down (up c) = c := by decide
theorem up_down : ∀ c, up (down c) = c := by decide

/-- Swapping the two halves of the mesh. -/
def swapEquiv : Dev nD ≃ Dev nD := ⟨partner, partner, partner_partner, partner_partner⟩
/-- Turning every line by one place. -/
def upEquiv : Dev nD ≃ Dev nD := ⟨up, down, down_up, up_down⟩

/-! ## Transfers -/

/-- A transfer: its kind and its step. Kind 0 goes up the line, kind 1 goes down it; kind 2 passes to the partner what
    came up, kind 3 what came down. -/
abbrev Xfer : Type := Fin 4 × Fin 3

/-- The device transfer `s` goes to from `c`. -/
def dst (s : Xfer) (c : Dev nD) : Dev nD := match s.1 with
  | 0 => up c
  | 1 => down c
  | _ => partner c
/-- The device transfer `s` comes from at `c`. -/
def src (s : Xfer) (c : Dev nD) : Dev nD := match s.1 with
  | 0 => down c
  | 1 => up c
  | _ => partner c

theorem src_dst (s : Xfer) (c : Dev nD) : src s (dst s c) = c := by
  rcases s with ⟨k, t⟩; fin_cases k <;> simp [src, dst, down_up, up_down, partner_partner]
theorem dst_src (s : Xfer) (c : Dev nD) : dst s (src s c) = c := by
  rcases s with ⟨k, t⟩; fin_cases k <;> simp [src, dst, down_up, up_down, partner_partner]

/-- Along transfer `s`, the devices in the order they send. -/
def dstEquiv (s : Xfer) : Dev nD ≃ Dev nD := ⟨dst s, src s, src_dst s, dst_src s⟩

/-- Whether device `c` makes transfer `s`, as a truth value; -/
def sendsB (s : Xfer) (c : Dev nD) : Bool := match s.1 with
  | 0 => decide (yOf c < 3) && decide (s.2.val ≤ yOf c)
  | 1 => decide (0 < yOf c) && decide (yOf c + s.2.val ≤ 3)
  | 2 => decide (s.2.val + 1 ≤ yOf c)
  | 3 => decide (yOf c + s.2.val + 1 ≤ 3)
/-- that it does. -/
def Sends (s : Xfer) (c : Dev nD) : Prop := sendsB s c = true
instance (s : Xfer) (c : Dev nD) : Decidable (Sends s c) := inferInstanceAs (Decidable (sendsB s c = true))

/-- The block of the array transfer `s` carries from device `c`. -/
def blockOf (s : Xfer) (c : Dev nD) : ℕ := match s.1 with
  | 0 => yOf c - s.2.val
  | 1 => yOf c + s.2.val
  | 2 => yOf c - 1 - s.2.val
  | 3 => yOf c + 1 + s.2.val
/-- The eighth of the array transfer `s` carries from device `c`, counting from the first row: half `xOf c` of the block. -/
def part (s : Xfer) (c : Dev nD) : ℕ := 2 * blockOf s c + xOf c

/-- Whether transfer `s` arrives at device `c`. -/
def Recvs (s : Xfer) (c : Dev nD) : Prop := Sends s (src s c)
instance (s : Xfer) (c : Dev nD) : Decidable (Recvs s c) := inferInstanceAs (Decidable (Sends s (src s c)))
/-- The eighth of the array that transfer `s` brings to device `c`. -/
def inPart (s : Xfer) (c : Dev nD) : ℕ := part s (src s c)

/-- What came up the line to a device is what it passes on up the line, -/
theorem sends_up : ∀ c, (Sends (0, 1) c → Recvs (0, 0) c) ∧ (Sends (0, 2) c → Recvs (0, 1) c) := by decide
/-- what came down is what it passes on down, -/
theorem sends_down : ∀ c, (Sends (1, 1) c → Recvs (1, 0) c) ∧ (Sends (1, 2) c → Recvs (1, 1) c) := by decide
/-- and what came either way is what it passes to its partner. -/
theorem sends_across : ∀ (t : Fin 3) c, (Sends (2, t) c ↔ Recvs (0, t) c) ∧ (Sends (3, t) c ↔ Recvs (1, t) c) := by decide
theorem part_up : ∀ c, (Recvs (0, 0) c → part (0, 1) c = inPart (0, 0) c) ∧ (Recvs (0, 1) c → part (0, 2) c = inPart (0, 1) c) := by decide
theorem part_down : ∀ c, (Recvs (1, 0) c → part (1, 1) c = inPart (1, 0) c) ∧ (Recvs (1, 1) c → part (1, 2) c = inPart (1, 1) c) := by decide
theorem part_across : ∀ (t : Fin 3) c, (Recvs (0, t) c → part (2, t) c = inPart (0, t) c) ∧ (Recvs (1, t) c → part (3, t) c = inPart (1, t) c) := by decide

/-- Every part carried is one of the eight. -/
theorem part_lt : ∀ s c, Sends s c → part s c < 8 := by decide
/-- The first transfers carry half of the device's own block. -/
theorem part_own : ∀ c, part (0, 0) c = 2 * yOf c + xOf c ∧ part (1, 0) c = 2 * yOf c + xOf c := by decide

/-- The parts that arrive at a device are all different, -/
theorem inPart_inj : ∀ c, ∀ s s', Recvs s c → Recvs s' c → inPart s c = inPart s' c → s = s' := by decide +kernel
/-- and they are all the parts outside its own block. -/
theorem inPart_image : ∀ c, ((Finset.univ.filter fun s : Xfer => Recvs s c).image fun s => inPart s c)
    = ((Finset.range 8).erase (2 * yOf c)).erase (2 * yOf c + 1) := by decide +kernel

/-- What a transfer carries belongs to another block than the receiver's own. -/
theorem part_ne_own : ∀ s c, Sends s c → part s c / 2 ≠ yOf (dst s c) := by decide +kernel
/-- A later transfer than the first carries a part outside the sender's own block. -/
theorem part_ne_src : ∀ s c, Sends s c → s ≠ (0, 0) → s ≠ (1, 0) → part s c / 2 ≠ yOf c := by decide +kernel

/-! ## What the program computes -/

theorem cond1_iff : ∀ c, k0_cond1 c = 1#1 ↔ 0 < yOf c := by decide +kernel
theorem cond2_iff : ∀ c, k0_cond2 c = 1#1 ↔ yOf c < 3 := by decide +kernel
theorem cond5_iff : ∀ c, k0_cond5 c = 1#1 ↔ Sends (0, 0) c := by decide +kernel
theorem cond6_iff : ∀ c, k0_cond6 c = 1#1 ↔ Sends (1, 0) c := by decide +kernel
theorem cond7_iff : ∀ c, k0_cond7 c = 1#1 ↔ Recvs (0, 0) c := by decide +kernel
theorem cond8_iff : ∀ c, k0_cond8 c = 1#1 ↔ Sends (0, 1) c := by decide +kernel
theorem cond9_iff : ∀ c, k0_cond9 c = 1#1 ↔ Sends (2, 0) c := by decide +kernel
theorem cond10_iff : ∀ c, k0_cond10 c = 1#1 ↔ Recvs (1, 0) c := by decide +kernel
theorem cond11_iff : ∀ c, k0_cond11 c = 1#1 ↔ Sends (1, 1) c := by decide +kernel
theorem cond12_iff : ∀ c, k0_cond12 c = 1#1 ↔ Sends (3, 0) c := by decide +kernel
theorem cond13_iff : ∀ c, k0_cond13 c = 1#1 ↔ Recvs (0, 1) c := by decide +kernel
theorem cond14_iff : ∀ c, k0_cond14 c = 1#1 ↔ Sends (0, 2) c := by decide +kernel
theorem cond15_iff : ∀ c, k0_cond15 c = 1#1 ↔ Sends (2, 1) c := by decide +kernel
theorem cond16_iff : ∀ c, k0_cond16 c = 1#1 ↔ Recvs (1, 1) c := by decide +kernel
theorem cond17_iff : ∀ c, k0_cond17 c = 1#1 ↔ Sends (1, 2) c := by decide +kernel
theorem cond18_iff : ∀ c, k0_cond18 c = 1#1 ↔ Sends (3, 1) c := by decide +kernel
theorem cond19_iff : ∀ c, k0_cond19 c = 1#1 ↔ Recvs (0, 2) c := by decide +kernel
theorem cond20_iff : ∀ c, k0_cond20 c = 1#1 ↔ Sends (2, 2) c := by decide +kernel
theorem cond21_iff : ∀ c, k0_cond21 c = 1#1 ↔ Recvs (1, 2) c := by decide +kernel
theorem cond22_iff : ∀ c, k0_cond22 c = 1#1 ↔ Sends (3, 2) c := by decide +kernel
theorem cond23_iff : ∀ c, k0_cond23 c = 1#1 ↔ Sends (2, 0) c := by decide +kernel
theorem cond24_iff : ∀ c, k0_cond24 c = 1#1 ↔ Sends (3, 0) c := by decide +kernel
theorem cond25_iff : ∀ c, k0_cond25 c = 1#1 ↔ Sends (2, 1) c := by decide +kernel
theorem cond26_iff : ∀ c, k0_cond26 c = 1#1 ↔ Sends (3, 1) c := by decide +kernel
theorem cond27_iff : ∀ c, k0_cond27 c = 1#1 ↔ Sends (2, 2) c := by decide +kernel
theorem cond28_iff : ∀ c, k0_cond28 c = 1#1 ↔ Sends (3, 2) c := by decide +kernel
theorem cond29_iff : ∀ c, k0_cond29 c = 1#1 ↔ Sends (0, 0) c := by decide +kernel
theorem cond30_iff : ∀ c, k0_cond30 c = 1#1 ↔ Sends (1, 0) c := by decide +kernel
theorem cond31_iff : ∀ c, k0_cond31 c = 1#1 ↔ Sends (0, 1) c := by decide +kernel
theorem cond32_iff : ∀ c, k0_cond32 c = 1#1 ↔ Sends (1, 1) c := by decide +kernel
theorem cond33_iff : ∀ c, k0_cond33 c = 1#1 ↔ Sends (0, 2) c := by decide +kernel
theorem cond34_iff : ∀ c, k0_cond34 c = 1#1 ↔ Sends (1, 2) c := by decide +kernel
/-- What the partner passes across arrives exactly when the device has the like to pass. -/
theorem recvs_across : ∀ (t : Fin 3) c, (Recvs (2, t) c ↔ Sends (2, t) c) ∧ (Recvs (3, t) c ↔ Sends (3, t) c) := by decide

theorem dev1_eq : ∀ c, (⟨k0_dev1 c, k0_dev1_lt c⟩ : Dev nD) = partner c := by decide +kernel
theorem dev2_eq : ∀ c h, (⟨k0_dev2 c, k0_dev2_lt c h⟩ : Dev nD) = down c := by decide +kernel
theorem dev3_eq : ∀ c h, (⟨k0_dev3 c, k0_dev3_lt c h⟩ : Dev nD) = up c := by decide +kernel
theorem dev4_eq : ∀ c h, (⟨k0_dev4 c, k0_dev4_lt c h⟩ : Dev nD) = dst (0, 0) c := by decide +kernel
theorem dev5_eq : ∀ c h, (⟨k0_dev5 c, k0_dev5_lt c h⟩ : Dev nD) = dst (1, 0) c := by decide +kernel
theorem dev6_eq : ∀ c h, (⟨k0_dev6 c, k0_dev6_lt c h⟩ : Dev nD) = dst (0, 1) c := by decide +kernel
theorem dev7_eq : ∀ c h, (⟨k0_dev7 c, k0_dev7_lt c h⟩ : Dev nD) = dst (2, 0) c := by decide +kernel
theorem dev8_eq : ∀ c h, (⟨k0_dev8 c, k0_dev8_lt c h⟩ : Dev nD) = dst (1, 1) c := by decide +kernel
theorem dev9_eq : ∀ c h, (⟨k0_dev9 c, k0_dev9_lt c h⟩ : Dev nD) = dst (3, 0) c := by decide +kernel
theorem dev10_eq : ∀ c h, (⟨k0_dev10 c, k0_dev10_lt c h⟩ : Dev nD) = dst (0, 2) c := by decide +kernel
theorem dev11_eq : ∀ c h, (⟨k0_dev11 c, k0_dev11_lt c h⟩ : Dev nD) = dst (2, 1) c := by decide +kernel
theorem dev12_eq : ∀ c h, (⟨k0_dev12 c, k0_dev12_lt c h⟩ : Dev nD) = dst (1, 2) c := by decide +kernel
theorem dev13_eq : ∀ c h, (⟨k0_dev13 c, k0_dev13_lt c h⟩ : Dev nD) = dst (3, 1) c := by decide +kernel
theorem dev14_eq : ∀ c h, (⟨k0_dev14 c, k0_dev14_lt c h⟩ : Dev nD) = dst (2, 2) c := by decide +kernel
theorem dev15_eq : ∀ c h, (⟨k0_dev15 c, k0_dev15_lt c h⟩ : Dev nD) = dst (3, 2) c := by decide +kernel

/-- The first row of part `n` of the array, as the offset of a rectangle. -/
abbrev rowAt (n : ℕ) : Fin 2 → ℕ := ![4096 * n, 0]

theorem off2_eq : ∀ c, k0_cond5 c = 1#1 → k0_off2 c = rowAt (part (0, 0) c) := by decide +kernel
theorem off3_eq : ∀ c, k0_cond5 c = 1#1 → k0_off3 c = rowAt (xOf c) := by decide +kernel
theorem off4_eq : ∀ c, k0_cond6 c = 1#1 → k0_off4 c = rowAt (part (1, 0) c) := by decide +kernel
theorem off5_eq : ∀ c, k0_cond6 c = 1#1 → k0_off5 c = rowAt (xOf c) := by decide +kernel
theorem off8_eq : ∀ c, k0_cond8 c = 1#1 → k0_off8 c = rowAt (part (0, 1) c) := by decide +kernel
theorem off9_eq : ∀ c, k0_cond9 c = 1#1 → k0_off9 c = rowAt (part (2, 0) c) := by decide +kernel
theorem off12_eq : ∀ c, k0_cond11 c = 1#1 → k0_off12 c = rowAt (part (1, 1) c) := by decide +kernel
theorem off13_eq : ∀ c, k0_cond12 c = 1#1 → k0_off13 c = rowAt (part (3, 0) c) := by decide +kernel
theorem off15_eq : ∀ c, k0_cond14 c = 1#1 → k0_off15 c = rowAt (part (0, 2) c) := by decide +kernel
theorem off16_eq : ∀ c, k0_cond15 c = 1#1 → k0_off16 c = rowAt (part (2, 1) c) := by decide +kernel
theorem off18_eq : ∀ c, k0_cond17 c = 1#1 → k0_off18 c = rowAt (part (1, 2) c) := by decide +kernel
theorem off19_eq : ∀ c, k0_cond18 c = 1#1 → k0_off19 c = rowAt (part (3, 1) c) := by decide +kernel
theorem off21_eq : ∀ c, k0_cond20 c = 1#1 → k0_off21 c = rowAt (part (2, 2) c) := by decide +kernel
theorem off23_eq : ∀ c, k0_cond22 c = 1#1 → k0_off23 c = rowAt (part (3, 2) c) := by decide +kernel
/-- The rows the local copy fills: the device's own block. -/
theorem off1_eq (c : Dev nD) : k0_off1 c = ![8192 * yOf c, 0] := k0_off1_eq c

/-! ## Semaphores -/

/-- The DMA semaphore of transfer `s` at its sender. -/
def sendQ (s : Xfer) : DmaSem sig := match s.1 with
  | 0 => (⟨1 + s.2.val, by have := s.2.isLt; omega⟩ : Fin 25)
  | 1 => (⟨7 + s.2.val, by have := s.2.isLt; omega⟩ : Fin 25)
  | 2 => (⟨13 + 2 * s.2.val, by have := s.2.isLt; omega⟩ : Fin 25)
  | 3 => (⟨14 + 2 * s.2.val, by have := s.2.isLt; omega⟩ : Fin 25)
/-- The DMA semaphore of transfer `s` at its receiver. -/
def recvQ (s : Xfer) : DmaSem sig := match s.1 with
  | 0 => (⟨4 + s.2.val, by have := s.2.isLt; omega⟩ : Fin 25)
  | 1 => (⟨10 + s.2.val, by have := s.2.isLt; omega⟩ : Fin 25)
  | 2 => (⟨19 + 2 * s.2.val, by have := s.2.isLt; omega⟩ : Fin 25)
  | 3 => (⟨20 + 2 * s.2.val, by have := s.2.isLt; omega⟩ : Fin 25)
/-- The DMA semaphore of the local copy. -/
def copyQ : DmaSem sig := (0 : Fin 25)

/-- What a DMA semaphore is for: the local copy (`none`), or a transfer, at its sender (`false`) or its receiver (`true`). -/
def useOf (q : Fin 25) : Option (Xfer × Bool) :=
  if q.val = 0 then none
  else if q.val < 13 then some ((⟨(q.val - 1) / 6, by have := q.isLt; omega⟩, ⟨(q.val - 1) % 3, Nat.mod_lt _ (by decide)⟩), decide ((q.val - 1) / 3 % 2 = 1))
  else some ((⟨2 + (q.val - 13) % 2, by omega⟩, ⟨(q.val - 13) % 6 / 2, by omega⟩), decide ((q.val - 13) / 6 = 1))

theorem useOf_copy : useOf copyQ = none := by decide
theorem useOf_send : ∀ s, useOf (sendQ s) = some (s, false) := by decide
theorem useOf_recv : ∀ s, useOf (recvQ s) = some (s, true) := by decide
/-- Every DMA semaphore is one of these. -/
theorem forall_dma {P : Fin 25 → Prop} (h0 : P copyQ) (hs : ∀ s, P (sendQ s)) (hr : ∀ s, P (recvQ s)) : ∀ q, P q := by
  have h : ∀ q : Fin 25, q = copyQ ∨ (∃ s, q = sendQ s) ∨ ∃ s, q = recvQ s := by decide
  intro q
  rcases h q with rfl | ⟨s, rfl⟩ | ⟨s, rfl⟩
  · exact h0
  · exact hs s
  · exact hr s

end Cert.Gather
-- ==== Proof.Rows.lean ====
/-
The rows of the two arrays that the transfers move, and what the result holds. The result of device `c` is described by
one function `gathered` of the whole array's indices: every row comes from the argument of one device. What a transfer
writes at its receiver is proved here to be that function's values on the rows it fills.
-/
module

public import proofs.«01_k».proof.Proof.Mesh
public import Idealize.ShloMosaic.Lib.Pipeline.Launch
public import Idealize.ShloMosaic.Lib.Pipeline.Kit
public import Idealize.ShloMosaic.Lib.Pipeline.ValueKit.Geometry
public import Idealize.ShloMosaic.Lib.Pipeline.Value
public import Idealize.ShloMosaic.Lib.Tactic

@[expose] public section

noncomputable section

namespace Cert.Gather

open Cert.KernelIdeal Cert.KernelIdeal.Gen
open Idealize.ShloMosaic Idealize.ShloMosaic.TcCoe

variable {F : FTy → Type} [FloatOps F]

/-! ## The arrays and their parts -/

/-- The argument of a device, whole. -/
abbrev xM : Memref sig .tc .hbm S8192x1024 .f32 := Memref.whole main_arg0
/-- The result of a device, whole. -/
abbrev oM : Memref sig .tc .hbm S32768x1024 .f32 := Memref.whole main_v1

/-- 4096 rows of the argument, from a row on. -/
abbrev xSlice (off : Fin 2 → ℕ) (inb : ∀ a, off a + S4096x1024.size a ≤ S8192x1024.size a) : Memref sig .tc .hbm S4096x1024 .f32 :=
  xM.slice (Rect.unit (s := S8192x1024) off S4096x1024.size inb) (fun _ => rfl)
/-- 4096 rows of the result, from a row on. -/
abbrev oSlice (off : Fin 2 → ℕ) (inb : ∀ a, off a + S4096x1024.size a ≤ S32768x1024.size a) : Memref sig .tc .hbm S4096x1024 .f32 :=
  oM.slice (Rect.unit (s := S32768x1024) off S4096x1024.size inb) (fun _ => rfl)
/-- 8192 rows of the result, from a row on. -/
abbrev oBlock (off : Fin 2 → ℕ) (inb : ∀ a, off a + S8192x1024.size a ≤ S32768x1024.size a) : Memref sig .tc .hbm S8192x1024 .f32 :=
  oM.slice (Rect.unit (s := S32768x1024) off S8192x1024.size inb) (fun _ => rfl)

/-- Part `n` of the result: its rows from `4096 n` up to the next multiple. -/
def rows (n : ℕ) : Finset S32768x1024.Idx := Finset.univ.filter fun i => (i 0).val / 4096 = n
/-- Half `h` of the argument. -/
def xRows (h : ℕ) : Finset S8192x1024.Idx := Finset.univ.filter fun i => (i 0).val / 4096 = h

theorem mem_rows {n : ℕ} {i : S32768x1024.Idx} : i ∈ rows n ↔ (i 0).val / 4096 = n := by simp [rows]
theorem mem_xRows {n : ℕ} {i : S8192x1024.Idx} : i ∈ xRows n ↔ (i 0).val / 4096 = n := by simp [xRows]

theorem rows_disjoint {n n' : ℕ} (h : n ≠ n') : Disjoint (rows n) (rows n') :=
  Finset.disjoint_left.mpr fun i hi hi' => h ((mem_rows.mp hi).symm.trans (mem_rows.mp hi'))
theorem xRows_disjoint {n n' : ℕ} (h : n ≠ n') : Disjoint (xRows n) (xRows n') :=
  Finset.disjoint_left.mpr fun i hi hi' => h ((mem_xRows.mp hi).symm.trans (mem_xRows.mp hi'))

/-- The eight parts are the whole result, -/
theorem rows_all : (Finset.range 8).biUnion rows = Finset.univ := by
  ext i
  simp only [Finset.mem_biUnion, Finset.mem_range, mem_rows, Finset.mem_univ, iff_true]
  have h : (i 0).val < 32768 := (i 0).isLt
  exact ⟨(i 0).val / 4096, by omega, rfl⟩
/-- and the two halves the whole argument. -/
theorem xRows_all : xRows 0 ∪ xRows 1 = Finset.univ := by
  ext i
  simp only [Finset.mem_union, mem_xRows, Finset.mem_univ, iff_true]
  have h : (i 0).val < 8192 := (i 0).isLt
  omega

theorem oSlice_set (n : ℕ) (inb : ∀ a, rowAt n a + S4096x1024.size a ≤ S32768x1024.size a) : (oSlice (rowAt n) inb).view.set = rows n := by
  refine (View.set_slice_whole main_v1 _).trans ?_
  ext i
  rw [Rect.mem_set_unit, mem_rows]
  have h1 : (i 1).val < 1024 := (i 1).isLt
  constructor
  · intro h
    have h0 : 4096 * n ≤ (i 0).val ∧ (i 0).val < 4096 * n + 4096 := h 0
    omega
  · intro h a
    have h0 : 4096 * n ≤ (i 0).val ∧ (i 0).val < 4096 * n + 4096 := by omega
    have h2 : 0 ≤ (i 1).val ∧ (i 1).val < 0 + 1024 := by omega
    fin_cases a
    · exact h0
    · exact h2

theorem xSlice_set (n : ℕ) (inb : ∀ a, rowAt n a + S4096x1024.size a ≤ S8192x1024.size a) : (xSlice (rowAt n) inb).view.set = xRows n := by
  refine (View.set_slice_whole main_arg0 _).trans ?_
  ext i
  rw [Rect.mem_set_unit, mem_xRows]
  have h1 : (i 1).val < 1024 := (i 1).isLt
  constructor
  · intro h
    have h0 : 4096 * n ≤ (i 0).val ∧ (i 0).val < 4096 * n + 4096 := h 0
    omega
  · intro h a
    have h0 : 4096 * n ≤ (i 0).val ∧ (i 0).val < 4096 * n + 4096 := by omega
    have h2 : 0 ≤ (i 1).val ∧ (i 1).val < 0 + 1024 := by omega
    fin_cases a
    · exact h0
    · exact h2

theorem oBlock_set (b : ℕ) (inb : ∀ a, (![8192 * b, 0] : Fin 2 → ℕ) a + S8192x1024.size a ≤ S32768x1024.size a) :
    (oBlock ![8192 * b, 0] inb).view.set = rows (2 * b) ∪ rows (2 * b + 1) := by
  refine (View.set_slice_whole main_v1 _).trans ?_
  ext i
  rw [Rect.mem_set_unit, Finset.mem_union, mem_rows, mem_rows]
  have h1 : (i 1).val < 1024 := (i 1).isLt
  constructor
  · intro h
    have h0 : 8192 * b ≤ (i 0).val ∧ (i 0).val < 8192 * b + 8192 := h 0
    omega
  · intro h a
    have h0 : 8192 * b ≤ (i 0).val ∧ (i 0).val < 8192 * b + 8192 := by omega
    have h2 : 0 ≤ (i 1).val ∧ (i 1).val < 0 + 1024 := by omega
    fin_cases a
    · exact h0
    · exact h2

/-! ## What the result holds -/

/-- The device whose argument fills part `n` of the result of device `c`: `c` itself for its own block, else the device
    of `c`'s `z`, at the part's block along `y` and at the part's half along `x`. -/
def holder (c : Dev nD) (n : ℕ) : Dev nD :=
  if n / 2 = yOf c then c else ⟨(16 * (n % 2) + 4 * (n / 2) + c.val % 4) % 32, Nat.mod_lt _ (by decide)⟩

/-- What a transfer carries comes from the same device at its receiver as at its sender; -/
theorem holder_dst : ∀ s c, Sends s c → holder (dst s c) (part s c) = holder c (part s c) := by decide +kernel
/-- a device's own block comes from itself, -/
theorem holder_own (c : Dev nD) (n : ℕ) (h : n / 2 = yOf c) : holder c n = c := if_pos h
/-- there and where the first transfers bring it. -/
theorem holder_first : ∀ c, (Sends (0, 0) c → holder (dst (0, 0) c) (part (0, 0) c) = c)
    ∧ (Sends (1, 0) c → holder (dst (1, 0) c) (part (1, 0) c) = c) := by decide +kernel
/-- Every part comes from the device whose block it is. -/
theorem holder_block : ∀ c, ∀ n ∈ Finset.range 8, yOf (holder c n) = n / 2 := by decide +kernel

/-- The index in a block of an index of the whole array. -/
def inBlock (i : S32768x1024.Idx) : S8192x1024.Idx := fun
  | ⟨0, _⟩ => ⟨(i 0).val % 8192, Nat.mod_lt _ (by decide)⟩
  | ⟨1, _⟩ => ⟨(i 1).val, (i 1).isLt⟩

theorem inBlock_eq {i : S32768x1024.Idx} {j : S8192x1024.Idx} (h0 : (j 0).val = (i 0).val % 8192) (h1 : (j 1).val = (i 1).val) : j = inBlock i := by
  funext a
  fin_cases a
  · exact Fin.ext h0
  · exact Fin.ext h1

variable (X : Dev nD → S8192x1024.Idx → Elt F .f32)

/-- What the result of device `c` holds after the run, the devices' arguments being `X`. -/
def gathered (c : Dev nD) : S32768x1024.Idx → Elt F .f32 := fun i => X (holder c ((i 0).val / 4096)) (inBlock i)

/-- Two devices whose part `n` comes from one device hold the same there. -/
theorem gathered_congr {c d : Dev nD} {n : ℕ} (h : holder d n = holder c n) : ∀ i ∈ rows n, gathered X c i = gathered X d i := fun i hi => by
  unfold gathered; rw [mem_rows.mp hi, h]

/-- What a transfer writes from rows of one result into the same rows of another: the first's contents. -/
theorem write_oSlice (n : ℕ) (inb : ∀ a, rowAt n a + S4096x1024.size a ≤ S32768x1024.size a) (fd f : S32768x1024.Idx → Elt F .f32) :
    ∀ i ∈ rows n, (oSlice (rowAt n) inb).view.write (Elt F) fd ((oSlice (rowAt n) inb).view.read (Elt F) f) Finset.univ i = f i := by
  intro i hi
  rw [← oSlice_set n inb] at hi
  obtain ⟨y, rfl⟩ := View.exists_emb_of_mem_set (oSlice (rowAt n) inb).view hi
  exact (View.write_emb_of_mem (v := (oSlice (rowAt n) inb).view) fd _ (Finset.mem_univ y)).trans rfl

/-- What the first transfers write: rows of a device's argument, in its block's place. -/
theorem write_xSlice (c d : Dev nD) (h n : ℕ) (hn : n = 2 * yOf c + h) (hh : h < 2) (hd : holder d n = c)
    (inbx : ∀ a, rowAt h a + S4096x1024.size a ≤ S8192x1024.size a)
    (inb : ∀ a, rowAt n a + S4096x1024.size a ≤ S32768x1024.size a) (fd : S32768x1024.Idx → Elt F .f32) :
    ∀ i ∈ rows n, (oSlice (rowAt n) inb).view.write (Elt F) fd ((xSlice (rowAt h) inbx).view.read (Elt F) (X c)) Finset.univ i = gathered X d i := by
  intro i hi
  have hi' := mem_rows.mp hi
  rw [← oSlice_set n inb] at hi
  obtain ⟨y, rfl⟩ := View.exists_emb_of_mem_set (oSlice (rowAt n) inb).view hi
  refine (View.write_emb_of_mem (v := (oSlice (rowAt n) inb).view) fd _ (Finset.mem_univ y)).trans ?_
  show X c ((xSlice (rowAt h) inbx).view.emb y) = _
  unfold gathered
  rw [hi', hd]
  have e0 : (((oSlice (rowAt n) inb).view.emb y) 0 : Fin _).val = 4096 * n + (y 0).val := ValueKit.rect_emb_unit_val (s := S32768x1024) (rowAt n) S4096x1024.size inb y 0
  have e1 : (((oSlice (rowAt n) inb).view.emb y) 1 : Fin _).val = 0 + (y 1).val := ValueKit.rect_emb_unit_val (s := S32768x1024) (rowAt n) S4096x1024.size inb y 1
  have d0 : (((xSlice (rowAt h) inbx).view.emb y) 0 : Fin _).val = 4096 * h + (y 0).val := ValueKit.rect_emb_unit_val (s := S8192x1024) (rowAt h) S4096x1024.size inbx y 0
  have d1 : (((xSlice (rowAt h) inbx).view.emb y) 1 : Fin _).val = 0 + (y 1).val := ValueKit.rect_emb_unit_val (s := S8192x1024) (rowAt h) S4096x1024.size inbx y 1
  have hy : (y 0).val < 4096 := (y 0).isLt
  refine congrArg (X c) (inBlock_eq ?_ ?_)
  · rw [e0, d0, hn]; omega
  · rw [e1, d1]

/-- What the local copy writes: the device's argument, in its block's place. -/
theorem write_own (c : Dev nD) (inb : ∀ a, (![8192 * yOf c, 0] : Fin 2 → ℕ) a + S8192x1024.size a ≤ S32768x1024.size a) (fd : S32768x1024.Idx → Elt F .f32) :
    ∀ i ∈ rows (2 * yOf c) ∪ rows (2 * yOf c + 1),
      (oBlock ![8192 * yOf c, 0] inb).view.write (Elt F) fd (xM.view.read (Elt F) (X c)) Finset.univ i = gathered X c i := by
  intro i hi
  have hi' : (i 0).val / 4096 / 2 = yOf c := by
    rcases Finset.mem_union.mp hi with h | h <;> (have := mem_rows.mp h; omega)
  rw [← oBlock_set (yOf c) inb] at hi
  obtain ⟨y, rfl⟩ := View.exists_emb_of_mem_set (oBlock ![8192 * yOf c, 0] inb).view hi
  refine (View.write_emb_of_mem (v := (oBlock ![8192 * yOf c, 0] inb).view) fd _ (Finset.mem_univ y)).trans ?_
  show X c y = _
  unfold gathered
  rw [holder_own c _ hi']
  have e0 : (((oBlock ![8192 * yOf c, 0] inb).view.emb y) 0 : Fin _).val = 8192 * yOf c + (y 0).val := ValueKit.rect_emb_unit_val (s := S32768x1024) ![8192 * yOf c, 0] S8192x1024.size inb y 0
  have e1 : (((oBlock ![8192 * yOf c, 0] inb).view.emb y) 1 : Fin _).val = 0 + (y 1).val := ValueKit.rect_emb_unit_val (s := S32768x1024) ![8192 * yOf c, 0] S8192x1024.size inb y 1
  have hy : (y 0).val < 8192 := (y 0).isLt
  refine congrArg (X c) (inBlock_eq ?_ ?_)
  · rw [e0]; omega
  · rw [e1, Nat.zero_add]

end Cert.Gather

end
-- ==== Proof.Plan.lean ====
/-
The plan of the program's communication. Every semaphore of every device is one cell, used for one round: who adds to
it, how much, and which rows of which array each addition hands over. A device owns the rows a transfer will fill until
it tells the sender, by the barrier signal, that they may be written; the transfer hands them back filled.
-/
module

public import proofs.«01_k».proof.Proof.Rows

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The barrier semaphore. -/
abbrev barS : Sem sig := (SemArray.scalar (sig.barrier 0 rfl) : Sems sig S_).sem
abbrev barC (c : Dev nD) : GSem nD τ sig := ((c : Thread nD τ), .reg barS)
abbrev dmaC (c : Dev nD) (q : DmaSem sig) : GSem nD τ sig := ((c : Thread nD τ), .dma q)
/-- The cell of transfer `s` at its sender `c`. -/
abbrev sendC (s : Xfer) (c : Dev nD) : GSem nD τ sig := dmaC c (sendQ s)
/-- The cell of transfer `s` at its receiver `c`. -/
abbrev recvC (s : Xfer) (c : Dev nD) : GSem nD τ sig := dmaC c (recvQ s)
abbrev copyC (c : Dev nD) : GSem nD τ sig := dmaC c copyQ

/-- What the transfer of 4096 rows adds to its semaphores, -/
@[irreducible] def N4 : ℕ := (oSlice ![0, 0] (by decide)).view.dmaCredit
/-- and the local copy of 8192 rows to its own. -/
@[irreducible] def N8 : ℕ := (oBlock ![0, 0] (by decide)).view.dmaCredit
theorem N4_pos : 0 < N4 := by unfold N4; exact View.dmaCredit_pos _ (by decide)
theorem N8_pos : 0 < N8 := by unfold N8; exact View.dmaCredit_pos _ (by decide)

/-! ## Rows owned -/

/-- `R` when `P` holds, else nothing. -/
def given (P : Prop) [Decidable P] (R : sProp 𝕄) : sProp 𝕄 := if P then R else iprop(emp)

theorem given_pos {P : Prop} [Decidable P] (h : P) (R : sProp 𝕄) : given P R = R := if_pos h
theorem given_neg {P : Prop} [Decidable P] (h : ¬ P) (R : sProp 𝕄) : given P R = iprop(emp) := if_neg h
theorem given_congr {P Q : Prop} [Decidable P] [Decidable Q] (h : P ↔ Q) (R : sProp 𝕄) : given P R = given Q R := by
  by_cases hP : P
  · rw [given_pos hP, given_pos (h.mp hP)]
  · rw [given_neg hP, given_neg fun hQ => hP (h.mpr hQ)]
theorem given_mono {P : Prop} [Decidable P] {R R' : sProp 𝕄} (h : P → R ⊢ R') : given P R ⊢ given P R' := by
  by_cases hP : P
  · rw [given_pos hP, given_pos hP]; exact h hP
  · rw [given_neg hP, given_neg hP]

instance given_storable (P : Prop) [Decidable P] (R : sProp 𝕄) [BI.Storable (upEmb : UEmb _ 𝕄) R] : BI.Storable (upEmb : UEmb _ 𝕄) (given P R) := by
  unfold given; split <;> infer_instance

/-- A share of part `n` of the result of device `c`, holding `f`. -/
def oAt (c : Dev nD) (n : ℕ) (q : PosShare TreeShare) (f : S32768x1024.Idx → Elt F .f32) : sProp 𝕄 :=
  (oM : Memref sig .tc .hbm S32768x1024 .f32).view.loc (c : Thread nD τ) ↦[rows n]{q} f
/-- A share of half `h` of the argument of device `c`, holding `f`. -/
def xAt (c : Dev nD) (h : ℕ) (q : PosShare TreeShare) (f : S8192x1024.Idx → Elt F .f32) : sProp 𝕄 :=
  (xM : Memref sig .tc .hbm S8192x1024 .f32).view.loc (c : Thread nD τ) ↦[xRows h]{q} f

instance oAt_storable (c : Dev nD) (n : ℕ) (q) (f : S32768x1024.Idx → Elt F .f32) : BI.Storable (upEmb : UEmb _ 𝕄) (oAt c n q f) := by unfold oAt; infer_instance
instance xAt_storable (c : Dev nD) (n : ℕ) (q) (f : S8192x1024.Idx → Elt F .f32) : BI.Storable (upEmb : UEmb _ 𝕄) (xAt c n q f) := by unfold xAt; infer_instance

/-- The share of the argument the local copy reads, and those of the first transfers. -/
abbrev qC : PosShare TreeShare := fullShare.left
abbrev qU : PosShare TreeShare := fullShare.right.left
abbrev qD : PosShare TreeShare := fullShare.right.right

variable (X : Dev nD → S8192x1024.Idx → Elt F .f32)

/-- What transfer `s` reads at its sender `c`, the rows owned at the share it takes: the argument's half for the first
    steps of kinds 0 and 1; afterwards a part of the result, half of its share for the line, half for the partner. -/
def source (s : Xfer) (c : Dev nD) : sProp 𝕄 := match s.1, s.2 with
  | 0, 0 => xAt c (xOf c) qU (X c)
  | 1, 0 => xAt c (xOf c) qD (X c)
  | 0, _ => oAt c (part s c) fullShare.left (gathered X c)
  | 1, _ => oAt c (part s c) fullShare.left (gathered X c)
  | _, _ => oAt c (part s c) fullShare.right (gathered X c)

/-- What transfer `s` leaves at its receiver `c`: the part it fills, filled. -/
def landed (s : Xfer) (c : Dev nD) : sProp 𝕄 := oAt c (inPart s c) fullShare (gathered X c)

/-- The part of `dst s c` that `c` may fill by transfer `s`, whatever it holds: handed to `c` before it starts `s`. -/
def room (s : Xfer) (c : Dev nD) : sProp 𝕄 := given (Sends s c) iprop(∃ f, oAt (F := F) (dst s c) (part s c) fullShare f)

/-- The argument's share back from the local copy, and the device's own block filled. -/
def copied (c : Dev nD) : sProp 𝕄 :=
  iprop((xAt c 0 qC (X c) ∗ xAt c 1 qC (X c)) ∗ oAt c (2 * yOf c) fullShare (gathered X c) ∗ oAt c (2 * yOf c + 1) fullShare (gathered X c))

instance source_storable (s : Xfer) (c : Dev nD) : BI.Storable (upEmb : UEmb _ 𝕄) (source X s c) := by
  unfold source; split <;> infer_instance
instance landed_storable (s : Xfer) (c : Dev nD) : BI.Storable (upEmb : UEmb _ 𝕄) (landed X s c) := by unfold landed; infer_instance
instance room_storable (s : Xfer) (c : Dev nD) : BI.Storable (upEmb : UEmb _ 𝕄) (room (F := F) s c) := by unfold room; infer_instance
instance copied_storable (c : Dev nD) : BI.Storable (upEmb : UEmb _ 𝕄) (copied X c) := by unfold copied; infer_instance

/-! ## The schedule -/

/-- What a neighbour's signal hands device `c`: the partner's (0) the room for what goes across, the lower neighbour's
    (1) for what goes down, the upper one's (2) for what goes up. -/
def grant (c : Dev nD) (d : Fin 3) : sProp 𝕄 := match d with
  | 0 => iprop((room (F := F) (2, 0) c ∗ room (2, 1) c ∗ room (2, 2) c) ∗ room (3, 0) c ∗ room (3, 1) c ∗ room (3, 2) c)
  | 1 => iprop(room (F := F) (1, 0) c ∗ room (1, 1) c ∗ room (1, 2) c)
  | 2 => iprop(room (F := F) (0, 0) c ∗ room (0, 1) c ∗ room (0, 2) c)

instance grant_storable (c : Dev nD) (d : Fin 3) : BI.Storable (upEmb : UEmb _ 𝕄) (grant (F := F) c d) := by
  unfold grant; split <;> infer_instance

/-- Which neighbours signal device `c`: the partner; the lower one if there is one; the upper one if there is one. -/
def signals (c : Dev nD) : Finset (Fin 3) := Finset.univ.filter fun d => d = 0 ∨ (d = 1 ∧ 0 < yOf c) ∨ (d = 2 ∧ yOf c < 3)

/-- Who adds to DMA semaphore `q` of device `c`: one addition if the semaphore is used there. -/
def adds (c : Dev nD) (q : DmaSem sig) : Finset (Fin 3) := match useOf q with
  | none => {0}
  | some (s, false) => if Sends s c then {0} else ∅
  | some (s, true) => if Recvs s c then {0} else ∅

/-- How much an addition to DMA semaphore `q` is. -/
def amountQ (q : DmaSem sig) : ℕ := match useOf q with
  | none => N8
  | some _ => N4

/-- What the addition to DMA semaphore `q` hands over. -/
def payQ (c : Dev nD) (q : DmaSem sig) : sProp 𝕄 := match useOf q with
  | none => copied X c
  | some (s, false) => source X s c
  | some (s, true) => landed X s c

instance payQ_storable (c : Dev nD) (q : DmaSem sig) : BI.Storable (upEmb : UEmb _ 𝕄) (payQ X c q) := by unfold payQ; split <;> infer_instance

theorem amountQ_pos (q : DmaSem sig) : 0 < amountQ q := by
  unfold amountQ; split
  · exact N8_pos
  · exact N4_pos

/-- The schedule: one round. -/
def plan : Rounds.Schedule (GSem nD τ sig) (Fin 3) 𝕄 where
  duties g r := if r = 0 then (match g.2 with
    | .reg _ => signals g.1.1
    | .dma q => adds g.1.1 q) else ∅
  unitless _ := False
  amount g _ _ := match g.2 with
    | .reg _ => 1
    | .dma q => amountQ q
  payload g _ d := match g.2 with
    | .reg _ => grant g.1.1 d
    | .dma q => payQ X g.1.1 q
  amount_pos g _ _ _ := by
    cases g.2 with
    | reg _ => exact Nat.one_pos
    | dma q => exact amountQ_pos q

instance plan_payload_storable (g : GSem nD τ sig) (r : ℕ) (d : Fin 3) : BI.Storable (upEmb : UEmb _ 𝕄) ((plan X).payload g r d) := by
  obtain ⟨t, sm⟩ := g
  cases sm with
  | reg _ => exact grant_storable t.1 d
  | dma q => exact payQ_storable X t.1 q

theorem duties_later (g : GSem nD τ sig) : ∀ r, 1 ≤ r → (plan X).duties g r = ∅ := fun r hr => if_neg (by omega)

/-! ### At the barrier cells -/

section
variable (c : Dev nD)

theorem duties_bar : (plan X).duties (barC c) 0 = signals c := rfl
theorem mem_bar0 : (0 : Fin 3) ∈ (plan X).duties (barC c) 0 := by rw [duties_bar]; simp [signals]
theorem mem_bar1 (h : 0 < yOf c) : (1 : Fin 3) ∈ (plan X).duties (barC c) 0 := by rw [duties_bar]; simp [signals, h]
theorem mem_bar2 (h : yOf c < 3) : (2 : Fin 3) ∈ (plan X).duties (barC c) 0 := by rw [duties_bar]; simp [signals, h]

/-- How many units a barrier cell is waited at: one from each neighbour. -/
def units (c : Dev nD) : ℕ := 1 + (if 0 < yOf c then 1 else 0) + (if yOf c < 3 then 1 else 0)

theorem card_signals : ∀ c, (signals c).card = units c := by decide +kernel

theorem expect_bar : (plan X).expect (barC c) 0 = units c := by
  show ∑ d ∈ signals c, 1 = units c
  rw [Finset.sum_const, smul_eq_mul, mul_one, card_signals]

/-- No transfer goes down from the lowest device, nor up from the highest. -/
theorem sends_down_pos : ∀ t c, Sends (1, t) c → 0 < yOf c := by decide +kernel
theorem sends_up_lt : ∀ t c, Sends (0, t) c → yOf c < 3 := by decide +kernel
theorem recvs_up_pos : ∀ t c, Recvs (0, t) c → 0 < yOf c := by decide +kernel
theorem recvs_down_lt : ∀ t c, Recvs (1, t) c → yOf c < 3 := by decide +kernel

/-- All signals in, device `c` has all the room it will fill. -/
theorem rest_bar : bigSep ((plan X).duties (barC c) 0 \ ∅) (fun d => (plan X).payload (barC c) 0 d) ⊢ iprop(grant c 0 ∗ grant c 1 ∗ grant (F := F) c 2) := by
  rw [Finset.sdiff_empty, duties_bar]
  show bigSep (signals c) (grant (F := F) c) ⊢ _
  unfold signals
  rw [bigSep_filter, bigSep_univ_eq_bigSepL [0, 1, 2] (by decide) (by decide), bigSepL_cons_cons, bigSepL_cons_cons, bigSepL_singleton]
  rw [if_pos (Or.inl rfl)]
  refine sep_mono_right (BI.sep_mono ?_ ?_)
  · by_cases h : 0 < yOf c
    · rw [if_pos (by simp [h])]; exact BI.Entails.refl _
    · rw [if_neg (by simp [h])]
      have hn : ∀ t, ¬ Sends (1, t) c := fun t hs => h (sends_down_pos t c hs)
      show _ ⊢ iprop(room (F := F) (1, 0) c ∗ room (1, 1) c ∗ room (1, 2) c)
      unfold room
      rw [given_neg (hn 0), given_neg (hn 1), given_neg (hn 2)]
      iintro -; isplitr; · iempintro
      isplitr <;> iempintro
  · by_cases h : yOf c < 3
    · rw [if_pos (by simp [h])]; exact BI.Entails.refl _
    · rw [if_neg (by simp [h])]
      have hn : ∀ t, ¬ Sends (0, t) c := fun t hs => h (sends_up_lt t c hs)
      show _ ⊢ iprop(room (F := F) (0, 0) c ∗ room (0, 1) c ∗ room (0, 2) c)
      unfold room
      rw [given_neg (hn 0), given_neg (hn 1), given_neg (hn 2)]
      iintro -; isplitr; · iempintro
      isplitr <;> iempintro
end

/-! ### A cell with one addition -/

theorem expect_one {g : GSem nD τ sig} {n : ℕ} (hd : (plan X).duties g 0 = {0}) (ha : (plan X).amount g 0 0 = n) : (plan X).expect g 0 = n := by
  unfold Schedule.expect Schedule.amountOf; rw [hd, Finset.sum_singleton, ha]
theorem rest_one {g : GSem nD τ sig} {R : sProp 𝕄} (hd : (plan X).duties g 0 = {0}) (hp : (plan X).payload g 0 0 = R) :
    bigSep ((plan X).duties g 0 \ ∅) (fun d => (plan X).payload g 0 d) = R := by
  rw [Finset.sdiff_empty, hd, bigSep_singleton, hp]

/-! ### At the cells of the transfers -/

section
variable (s : Xfer) (c : Dev nD)

theorem duties_send (h : Sends s c) : (plan X).duties (sendC s c) 0 = {0} := by
  show adds c (sendQ s) = _
  unfold adds; rw [useOf_send]; exact if_pos h
theorem duties_recv (h : Recvs s c) : (plan X).duties (recvC s c) 0 = {0} := by
  show adds c (recvQ s) = _
  unfold adds; rw [useOf_recv]; exact if_pos h
theorem duties_copy : (plan X).duties (copyC c) 0 = {0} := by
  show adds c copyQ = _
  unfold adds; rw [useOf_copy]
theorem duties_send_not (h : ¬ Sends s c) : ∀ r, 0 ≤ r → (plan X).duties (sendC s c) r = ∅ := fun r _ => by
  show (if r = 0 then adds c (sendQ s) else ∅) = _
  unfold adds; rw [useOf_send]; simp [h]
theorem duties_recv_not (h : ¬ Recvs s c) : ∀ r, 0 ≤ r → (plan X).duties (recvC s c) r = ∅ := fun r _ => by
  show (if r = 0 then adds c (recvQ s) else ∅) = _
  unfold adds; rw [useOf_recv]; simp [h]

theorem amount_send (d : Fin 3) : (plan X).amount (sendC s c) 0 d = N4 := by
  show amountQ (sendQ s) = _; unfold amountQ; rw [useOf_send]
theorem amount_recv (d : Fin 3) : (plan X).amount (recvC s c) 0 d = N4 := by
  show amountQ (recvQ s) = _; unfold amountQ; rw [useOf_recv]
theorem amount_copy (d : Fin 3) : (plan X).amount (copyC c) 0 d = N8 := by
  show amountQ copyQ = _; unfold amountQ; rw [useOf_copy]

theorem payload_send (d : Fin 3) : (plan X).payload (sendC s c) 0 d = source X s c := by
  show payQ X c (sendQ s) = _; unfold payQ; rw [useOf_send]
theorem payload_recv (d : Fin 3) : (plan X).payload (recvC s c) 0 d = landed X s c := by
  show payQ X c (recvQ s) = _; unfold payQ; rw [useOf_recv]
theorem payload_copy (d : Fin 3) : (plan X).payload (copyC c) 0 d = copied X c := by
  show payQ X c copyQ = _; unfold payQ; rw [useOf_copy]

theorem expect_send (h : Sends s c) : (plan X).expect (sendC s c) 0 = N4 := expect_one X (duties_send X s c h) (amount_send X s c 0)
theorem expect_recv (h : Recvs s c) : (plan X).expect (recvC s c) 0 = N4 := expect_one X (duties_recv X s c h) (amount_recv X s c 0)
theorem expect_copy : (plan X).expect (copyC c) 0 = N8 := expect_one X (duties_copy X c) (amount_copy X c 0)

theorem rest_send (h : Sends s c) : bigSep ((plan X).duties (sendC s c) 0 \ ∅) (fun d => (plan X).payload (sendC s c) 0 d) = source X s c :=
  rest_one X (duties_send X s c h) (payload_send X s c 0)
theorem rest_recv (h : Recvs s c) : bigSep ((plan X).duties (recvC s c) 0 \ ∅) (fun d => (plan X).payload (recvC s c) 0 d) = landed X s c :=
  rest_one X (duties_recv X s c h) (payload_recv X s c 0)
theorem rest_copy : bigSep ((plan X).duties (copyC c) 0 \ ∅) (fun d => (plan X).payload (copyC c) 0 d) = copied X c :=
  rest_one X (duties_copy X c) (payload_copy X c 0)
end

/-! ## What a device owes, and the order of waiting -/

/-- `t` when `P` holds, else nothing owed. -/
def due (P : Prop) [Decidable P] (t : CellTallies nD τ sig Unit) : CellTallies nD τ sig Unit := if P then t else 0

/-- What device `c` owes for the transfers of a list, the first of the list outermost. -/
def owe : List Xfer → Dev nD → CellTallies nD τ sig Unit
  | [], _ => 0
  | s :: l, c => owe l c + due (Sends s c) (tallyAt (recvC s (dst s c)) () N4)

/-- The transfers in the order the program starts them. -/
def order : List Xfer := [(0, 0), (1, 0), (0, 1), (2, 0), (1, 1), (3, 0), (0, 2), (2, 1), (1, 2), (3, 1), (2, 2), (3, 2)]

/-- What device `c` owes after its three signals, before them, and in between. -/
def O₃ (c : Dev nD) : CellTallies nD τ sig Unit := owe order c
def O₂ (c : Dev nD) : CellTallies nD τ sig Unit := O₃ c + due (yOf c < 3) (tallyAt (barC (up c)) () 1)
def O₁ (c : Dev nD) : CellTallies nD τ sig Unit := O₂ c + due (0 < yOf c) (tallyAt (barC (down c)) () 1)
def O₀ (c : Dev nD) : CellTallies nD τ sig Unit := O₁ c + tallyAt (barC (partner c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Levels: a device waits at a cell only while all it still owes is to cells of higher level. -/
def levelQ (q : DmaSem sig) : ℕ := match useOf q with
  | some (s, true) => if s.1.val < 2 then 2 + s.2.val else 10
  | _ => 0
def level (sm : SemLoc sig) : ℕ := match sm with
  | .reg _ => 1
  | .dma q => levelQ q
def lv (g : GSem nD τ sig) (_ : Unit) : ℕ := level g.2

theorem owe_pos {l : List Xfer} {c : Dev nD} {g : GSem nD τ sig} {u : Unit} (h : 0 < owe l c g u) : ∃ s ∈ l, g = recvC s (dst s c) := by
  induction l with
  | nil => exact absurd h (Nat.lt_irrefl 0)
  | cons s l ih =>
    by_cases hl : 0 < owe l c g u
    · obtain ⟨s', hs', hg⟩ := ih hl
      exact ⟨s', List.mem_cons_of_mem _ hs', hg⟩
    · refine ⟨s, List.mem_cons_self, ?_⟩
      unfold owe due at h
      rw [Pi.add_apply, Finsupp.add_apply, Nat.eq_zero_of_not_pos hl, Nat.zero_add] at h
      by_contra hg
      by_cases hP : Sends s c
      · rw [if_pos hP, tallyAt_apply, if_neg (fun h' => hg h'.1)] at h
        exact Nat.lt_irrefl 0 h
      · rw [if_neg hP] at h
        exact Nat.lt_irrefl 0 h

/-- A device may wait at a cell below the receive cells of the transfers it has still to start. -/
theorem mayWait (c : Dev nD) (sm : SemLoc sig) (l : List Xfer) (h : ∀ s ∈ l, level sm < levelQ (recvQ s)) :
    (levAts L lv : sProp 𝕄) ⊢ MayWait (c : Thread nD τ) sm () (owe l c) :=
  MayOwe.of_cut (L := L) (lev := lv) (level sm) (fun p hp => by rw [Finset.mem_singleton.mp hp, L_tc]; exact Finset.mem_singleton_self _)
    (fun g u hg => by obtain ⟨s, _, rfl⟩ := owe_pos hg; exact Finset.mem_singleton_self _)
    (fun p hp => by rw [Finset.mem_singleton.mp hp]; exact le_refl _)
    (fun g u hg => by obtain ⟨s, hs, rfl⟩ := owe_pos hg; exact h s hs)

end Cert.Gather

end
-- ==== Proof.Steps.lean ====
/-
The steps a device's program is made of, each proved once: a barrier signal, the barrier wait, the start of a transfer,
the wait for a transfer at its sender and at its receiver, and the local copy. Most of them stand under a condition on
the device; each is stated with the condition, the resources it needs given only where it holds.
-/
module

public import proofs.«01_k».proof.Proof.Plan

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c` runs to `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A program that is over has run. -/
theorem runs_ret {α : Type} {Q : α → sProp 𝕄} (c : Dev nD) (a : α) : Q a ⊢ Runs (F := F) c (.ret a) Q := by
  show Q a ⊢ wp frame (wpE (defs₀ (F := F)) 𝒱₀ (c : Thread nD τ) none) Set.univ (.ret a) Q
  rw [wp_ret]
  iintro H
  imodintro
  iexact H

variable (X : Dev nD → S8192x1024.Idx → Elt F .f32)

/-! ## What every device knows -/

/-- The cells, by device and semaphore: the barrier's or a DMA semaphore's. -/
def kcell (i : Dev nD × Option (Fin 25)) : GSem nD τ sig := match i.2 with
  | none => barC i.1
  | some q => dmaC i.1 q

/-- Every cell follows the plan, and its round is open. -/
def records (K : Dev nD × Option (Fin 25) → ℕ) : sProp 𝕄 :=
  bigSep Finset.univ fun i => iprop(cellInv ER (plan X) (K i) (kcell i) ∗ reached ER (kcell i) 0)

instance records_persistent (K : Dev nD × Option (Fin 25) → ℕ) : BI.Persistent (records X K) := by unfold records; infer_instance

variable (K : Dev nD × Option (Fin 25) → ℕ)

theorem record_at (i : Dev nD × Option (Fin 25)) : records X K ⊢ iprop(cellInv ER (plan X) (K i) (kcell i) ∗ reached ER (kcell i) 0) := by
  unfold records; exact bigSep_elim (Finset.mem_univ i)
theorem record_bar (c : Dev nD) : records X K ⊢ iprop(cellInv ER (plan X) (K (c, none)) (barC c) ∗ reached ER (barC c) 0) := record_at X K (c, none)
theorem record_dma (c : Dev nD) (q : DmaSem sig) : records X K ⊢ iprop(cellInv ER (plan X) (K (c, some q)) (dmaC c q) ∗ reached ER (dmaC c q) 0) :=
  record_at X K (c, some q)

/-- What device `c` owes, whatever it waited at before. -/
def owing (c : Dev nD) (O : CellTallies nD τ sig Unit) : sProp 𝕄 := iprop(∃ W, owes (c : Thread nD τ) O W)

theorem due_pos {P : Prop} [Decidable P] (h : P) (t : CellTallies nD τ sig Unit) : due P t = t := if_pos h
theorem due_neg {P : Prop} [Decidable P] (h : ¬ P) (t : CellTallies nD τ sig Unit) : due P t = 0 := if_neg h

theorem owe_cons (s : Xfer) (l : List Xfer) (c : Dev nD) : owe (s :: l) c = owe l c + due (Sends s c) (tallyAt (recvC s (dst s c)) () N4) := rfl

/-! ## Barrier signals -/

/-- A signal to a neighbour: `c` hands it what the neighbour's duty `d` carries. -/
theorem wp_tell {α : Type} {Q : α → sProp 𝕄} {k : Prog (TpuEff nD τ sig (Elt F) Λ₀ .tc) α}
    (c n : Dev nD) (d : Fin 3) (hd : d ∈ (plan X).duties (barC n) 0) (O : CellTallies nD τ sig Unit) :
    iprop(records X K ∗ owing c (O + tallyAt (barC n) () 1) ∗ dutyTok ER (barC n) 0 d ∗ grant (F := F) n d)
      ⊢ iprop((owing c O -∗ Runs c k Q) -∗ Runs c (.op (.semSignal (n : Thread nD τ) barS (1#32).toInt) (fun _ => k)) Q) := by
  unfold owing
  iintro ⟨#HR, ⟨%W, HO⟩, Ht, Hg⟩ Hk
  ihave #Hc := (record_bar X K n) $$ HR
  icases Hc with ⟨#HI, #Hr⟩
  iapply (Rounds.wp_signal 𝒱₀ ER (plan X) (c : Thread nD τ) none (dst := (n : Thread nD τ)) (κ := K (n, none)) (k := fun _ => k)
      hd (rfl : (plan X).amount (barC n) 0 d = 1) () O rfl) $$ [HO Ht Hg]
  · isplitr; · iexact HI
    isplitl [HO]; · iexact HO
    isplitl [Ht]; · iexact Ht
    isplitl [Hg]; · rw [show (plan X).payload (barC n) 0 d = grant (F := F) n d from rfl]; iexact Hg
    iexact Hr
  iintro HO
  iapply Hk
  iexists _; iexact HO

/-- A signal to a neighbour that may not exist. -/
theorem wp_tell_if {α : Type} {Q : α → sProp 𝕄} {k : Prog (TpuEff nD τ sig (Elt F) Λ₀ .tc) α}
    (c n : Dev nD) (d : Fin 3) {P : Prop} [Decidable P] (P' : Prop) [Decidable P'] (hP : P ↔ P') (hd : P' → d ∈ (plan X).duties (barC n) 0)
    (O : CellTallies nD τ sig Unit) (dev : P → Dev nD) (hdev : ∀ h, dev h = n) :
    iprop(records X K ∗ owing c (O + due P' (tallyAt (barC n) () 1)) ∗ dutyTok ER (barC n) 0 d ∗ given P' (grant (F := F) n d))
      ⊢ iprop((owing c O -∗ Runs c k Q) -∗ Runs c (if h : P then .op (.semSignal (dev h : Thread nD τ) barS (1#32).toInt) (fun _ => k) else k) Q) := by
  by_cases h : P
  · rw [due_pos (hP.mp h), given_pos (hP.mp h), dif_pos h, hdev h]
    exact wp_tell X K c n d (hd (hP.mp h)) O
  · rw [due_neg (fun h' => h (hP.mpr h')), dif_neg h, add_zero]
    iintro ⟨-, HO, -, -⟩ Hk
    iapply Hk; iexact HO

/-! ## Waits -/

/-- The wait for all of a cell's round, and the cell closed: its counter is zero, and the round's rows are `c`'s. -/
theorem wp_await {α : Type} {Q : α → sProp 𝕄} {k : Prog (TpuEff nD τ sig (Elt F) Λ₀ .tc) α}
    (c : Dev nD) (q : DmaSem sig) (N : ℕ) (hN : (plan X).expect (dmaC c q) 0 = N) {R : sProp 𝕄}
    (hR : bigSep ((plan X).duties (dmaC c q) 0 \ ∅) (fun d => (plan X).payload (dmaC c q) 0 d) = R)
    (l : List Xfer) (hl : ∀ s ∈ l, levelQ q < levelQ (recvQ s)) {sp sp' : Space} {sh sh' : Shape} {e e' : EltTy}
    {srcm : Memref sig .tc sp sh e} {dstm : Memref sig .tc sp' sh' e'} {h1 : srcm.view.WordExact} {h2 : dstm.view.WordExact} (hd : dstm.view.dmaCredit = N) :
    iprop(records X K ∗ levAts L lv ∗ cred (tallyAt (dmaC c q) () N) ∗ owing c (owe l c) ∗ atPos ER (dmaC c q) 0 ∅ 0)
      ⊢ iprop((owing c (owe l c) ∗ semVal (dmaC c q) 0 ∗ R -∗ Runs c k Q) -∗ Runs c (.op (.waitDma2 q srcm dstm h1 h2) (fun _ => k)) Q) := by
  subst hd
  unfold owing
  iintro ⟨#HR, #Hlev, Hc, ⟨%W, HO⟩, Hat⟩ Hk
  ihave #Hc' := (record_dma X K c q) $$ HR
  icases Hc' with ⟨#HI, #Hr⟩
  iapply (Rounds.wp_wait_rest_token 𝒱₀ ER (plan X) (c : Thread nD τ) none (κ := K (c, some q)) (k := fun _ => k)
      (wpE_waitDma2_eq 𝒱₀ (c : Thread nD τ) none Set.univ) (Set.mem_univ _) () (O := owe l c) (W := W) (R := 0) (m := 0) (T := ∅)
      (by rw [Nat.zero_add, hN])) $$ [Hc HO Hat]
  · isplitr; · iexact HI
    isplitl [Hc]; · iexact Hc
    isplitl [HO]; · iexact HO
    isplitr; · iapply (mayWait c (.dma q) l hl); iexact Hlev
    iexact Hat
  iintro ⟨HO, Hat, -, Hpay⟩
  ihave Hp := (Entails.of_eq hR) $$ Hpay
  imod (Rounds.cell_close ER (plan X) (Set.mem_univ (K (c, some q))) (fun h => h) (R := 0 + 1) (duties_later X (dmaC c q))) $$ [Hat] with Hz
  · isplitr; · iexact HI
    iexact Hat
  iapply Hk
  isplitl [HO]; · iexists _; iexact HO
  isplitl [Hz] <;> iassumption

/-- A cell no one adds to is closed at once. -/
theorem close_unused (c : Dev nD) (q : DmaSem sig) (h : ∀ r, 0 ≤ r → (plan X).duties (dmaC c q) r = ∅) :
    iprop(records X K ∗ atPos ER (dmaC c q) 0 ∅ 0) ⊢ (iprop(|={Set.univ}=> semVal (dmaC c q) 0) : sProp 𝕄) := by
  iintro ⟨#HR, Hat⟩
  ihave #Hc' := (record_dma X K c q) $$ HR
  icases Hc' with ⟨#HI, #Hr⟩
  iapply (Rounds.cell_close ER (plan X) (Set.mem_univ (K (c, some q))) (fun h => h) (R := 0) h)
  isplitr; · iexact HI
  iexact Hat

/-- The barrier wait, and the barrier closed: all the room `c` fills is granted. -/
theorem wp_barrier {α : Type} {Q : α → sProp 𝕄} {k : Prog (TpuEff nD τ sig (Elt F) Λ₀ .tc) α} (c : Dev nD) (n : Int) (hn : n = (units c : ℕ)) :
    iprop(records X K ∗ levAts L lv ∗ cred (tallyAt (barC c) () (units c)) ∗ owing c (O₃ c) ∗ atPos ER (barC c) 0 ∅ 0)
      ⊢ iprop((owing c (O₃ c) ∗ semVal (barC c) 0 ∗ grant c 0 ∗ grant c 1 ∗ grant (F := F) c 2 -∗ Runs c k Q)
          -∗ Runs c (.op (.semWait barS n) (fun _ => k)) Q) := by
  subst hn
  unfold owing
  iintro ⟨#HR, #Hlev, Hc, ⟨%W, HO⟩, Hat⟩ Hk
  ihave #Hc' := (record_bar X K c) $$ HR
  icases Hc' with ⟨#HI, #Hr⟩
  iapply (Rounds.wp_wait_rest_token 𝒱₀ ER (plan X) (c : Thread nD τ) none (κ := K (c, none)) (k := fun _ => k)
      (wpE_semWait_eq 𝒱₀ (c : Thread nD τ) none Set.univ) (Set.mem_univ _) () (O := O₃ c) (W := W) (R := 0) (m := 0) (T := ∅)
      (by rw [Nat.zero_add, expect_bar])) $$ [Hc HO Hat]
  · isplitr; · iexact HI
    isplitl [Hc]; · iexact Hc
    isplitl [HO]; · iexact HO
    isplitr
    · iapply (mayWait c (.reg barS) order (by decide)); iexact Hlev
    iexact Hat
  iintro ⟨HO, Hat, -, Hpay⟩
  ihave Hp := (rest_bar X c) $$ Hpay
  imod (Rounds.cell_close ER (plan X) (Set.mem_univ (K (c, none))) (fun h => h) (R := 0 + 1) (duties_later X (barC c))) $$ [Hat] with Hz
  · isplitr; · iexact HI
    iexact Hat
  iapply Hk
  isplitl [HO]; · iexists _; iexact HO
  isplitl [Hz]; · iexact Hz
  iexact Hp

/-- The program waits for three units where there are both neighbours along the line, for two where there is one. -/
theorem wp_barrier_if {α : Type} {Q : α → sProp 𝕄} {k : Prog (TpuEff nD τ sig (Elt F) Λ₀ .tc) α} (c : Dev nD) {P P' : Prop} [Decidable P] [Decidable P']
    (hP : P ↔ (0 < yOf c ∧ yOf c < 3)) (hP' : P' ↔ ¬ (0 < yOf c ∧ yOf c < 3)) :
    iprop(records X K ∗ levAts L lv ∗ cred (tallyAt (barC c) () (units c)) ∗ owing c (O₃ c) ∗ atPos ER (barC c) 0 ∅ 0)
      ⊢ iprop((owing c (O₃ c) ∗ semVal (barC c) 0 ∗ grant c 0 ∗ grant c 1 ∗ grant (F := F) c 2 -∗ Runs c k Q)
          -∗ Runs c (if h : P then .op (.semWait barS (3#32).toInt) (fun _ => if h' : P' then .op (.semWait barS (2#32).toInt) (fun _ => k) else k)
            else if h' : P' then .op (.semWait barS (2#32).toInt) (fun _ => k) else k) Q) := by
  have h4 : yOf c < 4 := Nat.mod_lt _ (by decide)
  by_cases h : P
  · have h' : ¬ P' := fun h' => hP'.mp h' (hP.mp h)
    rw [dif_pos h, dif_neg h']
    refine wp_barrier X K c _ ?_
    unfold units; rw [if_pos (hP.mp h).1, if_pos (hP.mp h).2]; decide
  · have hn := fun h' => h (hP.mpr h')
    rw [dif_neg h, dif_pos (hP'.mpr hn)]
    refine wp_barrier X K c _ ?_
    have : units c = 2 := by
      unfold units
      by_cases h0 : 0 < yOf c
      · rw [if_pos h0, if_neg fun h3 => hn ⟨h0, h3⟩]
      · rw [if_neg h0, if_pos (by omega)]
    rw [this]; decide

theorem xOf_lt : ∀ c, xOf c < 2 := by decide

/-! ## Transfers started -/

theorem oSlice_amount (off : Fin 2 → ℕ) (inb : ∀ a, off a + S4096x1024.size a ≤ S32768x1024.size a) : (oSlice off inb).view.dmaCredit = N4 := by
  unfold N4; rfl
theorem xSlice_amount (off : Fin 2 → ℕ) (inb : ∀ a, off a + S4096x1024.size a ≤ S8192x1024.size a) : (xSlice off inb).view.dmaCredit = N4 := by
  unfold N4; rfl
theorem oBlock_amount (off : Fin 2 → ℕ) (inb : ∀ a, off a + S8192x1024.size a ≤ S32768x1024.size a) : (oBlock off inb).view.dmaCredit = N8 := by
  unfold N8; rfl

/-- The start of transfer `s`, its source a share `q` of rows `I` holding `fs`: those are what the sender gets back, and
    what is written is what the receiver's result holds there. -/
theorem wp_start {α : Type} {Q : α → sProp 𝕄} {k : Prog (TpuEff nD τ sig (Elt F) Λ₀ .tc) α}
    (s : Xfer) (c : Dev nD) (hs : Sends s c) (n : Dev nD) (hn : n = dst s c) (l : List Xfer)
    {srcm : Memref sig .tc .hbm S4096x1024 .f32} (q : PosShare TreeShare) (fs : Buf (Elt F) (srcm.view.loc (c : Thread nD τ)))
    (hsrc : (srcm.view.loc (c : Thread nD τ) ↦[srcm.view.set]{q} fs : sProp 𝕄) = source X s c)
    {inb : ∀ a, rowAt (part s c) a + S4096x1024.size a ≤ S32768x1024.size a}
    (hw : ∀ fd, ∀ i ∈ rows (part s c), (oSlice (rowAt (part s c)) inb).view.write (Elt F) fd (srcm.view.read (Elt F) fs) Finset.univ i = gathered X (dst s c) i)
    {hsc : (oSlice (rowAt (part s c)) inb).view.ref.isScScratch = false} {h1 : srcm.view.WordExact} {h2 : (oSlice (rowAt (part s c)) inb).view.WordExact}
    {h3 : DmaTarget.Typed .hbm (.dma (recvQ s)) (.remote (Dev.tc n : Thread nD τ) (oSlice (rowAt (part s c)) inb) (.dma (sendQ s)) hsc)} :
    iprop(records X K ∗ source X s c ∗ (∃ f, oAt (F := F) (dst s c) (part s c) fullShare f)
        ∗ owing c (owe l c + tallyAt (recvC s (dst s c)) () N4) ∗ dutyTok ER (sendC s c) 0 0 ∗ dutyTok ER (recvC s (dst s c)) 0 0)
      ⊢ iprop((owing c (owe l c) ∗ cred (tallyAt (sendC s c) () N4) -∗ Runs c k Q)
          -∗ Runs c (.op (.enqueueDma srcm (.remote (Dev.tc n : Thread nD τ) (oSlice (rowAt (part s c)) inb) (.dma (sendQ s)) hsc) (.dma (recvQ s)) h1 h2 h3)
            (fun _ => k)) Q) := by
  subst hn
  have hrecv : Recvs s (dst s c) := by unfold Recvs; rw [src_dst]; exact hs
  have hland : ∀ fd : S32768x1024.Idx → Elt F .f32, ((oSlice (rowAt (part s c)) inb).view.loc (Dev.tc (dst s c) : Thread nD τ) ↦[(oSlice (rowAt (part s c)) inb).view.set]{fullShare}
      ((oSlice (rowAt (part s c)) inb).view.write (Elt F) fd (srcm.view.read (Elt F) fs) Finset.univ) : sProp 𝕄) = landed X s (dst s c) := fun fd => by
    unfold landed oAt inPart
    rw [src_dst, oSlice_set]
    exact pointsTo_congr (hw fd)
  unfold owing
  iintro ⟨#HR, Hs, ⟨%f, Hd⟩, ⟨%W, HO⟩, Ht1, Ht2⟩ Hk
  ihave #Hc1 := (record_dma X K c (sendQ s)) $$ HR
  icases Hc1 with ⟨#HI1, #Hr1⟩
  ihave #Hc2 := (record_dma X K (dst s c) (recvQ s)) $$ HR
  icases Hc2 with ⟨#HI2, #Hr2⟩
  iapply (Rounds.wp_send_pointsTo 𝒱₀ ER (plan X) (c : Thread nD τ) none (κ₁ := K (c, some (sendQ s))) (κ₂ := K (dst s c, some (recvQ s)))
    (r₁ := 0) (r₂ := 0) (d₁ := 0) (d₂ := 0) (fd := f) (q := q) (fs := fs) (k := fun _ => k)
    (by rw [duties_send X s c hs]; exact Finset.mem_singleton_self _) (by rw [duties_recv X s (dst s c) hrecv]; exact Finset.mem_singleton_self _)
    () () N4 (show (oSlice (rowAt (part s c)) inb).view.amount (.dma (recvQ s)) = N4 from oSlice_amount _ inb) (amount_send X s c 0) (amount_recv X s (dst s c) 0) (owe l c) rfl (W := W)
    (by rw [payload_send, hsrc])
    (by rw [payload_recv, hland])) $$ [Hs Hd HO Ht1 Ht2]
  · isplitr; · iexact HI1
    isplitr; · iexact HI2
    isplitl [Hs]; · rw [hsrc]; iexact Hs
    isplitl [Hd]; · rw [oSlice_set]; unfold oAt; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  iexact Hc

/-- Whether a transfer forwards a part of the result: all but the first steps along the line. -/
def Forwards (s : Xfer) : Prop := s.2 ≠ 0 ∨ 2 ≤ s.1.val
instance (s : Xfer) : Decidable (Forwards s) := by unfold Forwards; infer_instance

/-- The share of a part that a forwarding transfer takes. -/
def qOf (s : Xfer) : PosShare TreeShare := if s.1.val < 2 then fullShare.left else fullShare.right

theorem source_forward (s : Xfer) (c : Dev nD) (hf : Forwards s) : source X s c = oAt c (part s c) (qOf s) (gathered X c) := by
  obtain ⟨a, t⟩ := s
  unfold Forwards at hf
  fin_cases a <;> fin_cases t <;> first | rfl | (exact absurd hf (by decide))

/-- The start of a forwarding transfer, under the program's condition. -/
theorem wp_forward_if {α : Type} {Q : α → sProp 𝕄} {k : Prog (TpuEff nD τ sig (Elt F) Λ₀ .tc) α}
    (s : Xfer) (c : Dev nD) (hf : Forwards s) (l : List Xfer) {P : Prop} [Decidable P] (hP : P ↔ Sends s c)
    {off : Fin 2 → ℕ} (hoff : P → off = rowAt (part s c)) {inb : P → ∀ a, off a + S4096x1024.size a ≤ S32768x1024.size a}
    {dev : P → Dev nD} (hdev : ∀ h, dev h = dst s c) {qS qR : DmaSem sig} (hS : qS = sendQ s) (hR : qR = recvQ s)
    {hsc : ∀ h : P, (oSlice off (inb h)).view.ref.isScScratch = false} {h1 : ∀ h : P, (oSlice off (inb h)).view.WordExact} {h2 : ∀ h : P, (oSlice off (inb h)).view.WordExact}
    {h3 : ∀ h : P, DmaTarget.Typed .hbm (.dma qR) (.remote (Dev.tc (dev h) : Thread nD τ) (oSlice off (inb h)) (.dma qS) (hsc h))} :
    iprop(records X K ∗ given (Sends s c) (source X s c) ∗ room (F := F) s c
        ∗ owing c (owe (s :: l) c) ∗ dutyTok ER (sendC s c) 0 0 ∗ dutyTok ER (recvC s (dst s c)) 0 0)
      ⊢ iprop((owing c (owe l c) ∗ given (Sends s c) (cred (tallyAt (sendC s c) () N4)) -∗ Runs c k Q)
          -∗ Runs c (if h : P then .op (.enqueueDma (oSlice off (inb h)) (.remote (Dev.tc (dev h) : Thread nD τ) (oSlice off (inb h)) (.dma qS) (hsc h)) (.dma qR) (h1 h) (h2 h) (h3 h))
            (fun _ => k) else k) Q) := by
  subst hS hR
  by_cases h : P
  · have hs := hP.mp h
    obtain rfl := hoff h
    rw [dif_pos h]
    unfold room
    rw [given_pos hs, given_pos hs, given_pos hs]
    rw [owe_cons, due_pos hs]
    refine wp_start X K s c hs (dev h) (hdev h) l (qOf s) (gathered X c) ?_ ?_
    · rw [source_forward X s c hf, oSlice_set]; rfl
    · intro fd i hi
      rw [write_oSlice (part s c) _ fd (gathered X c) i hi]
      exact gathered_congr X (holder_dst s c hs) i hi
  · have hs : ¬ Sends s c := fun h' => h (hP.mpr h')
    rw [dif_neg h, given_neg hs, given_neg hs]
    rw [owe_cons, due_neg hs, add_zero]
    iintro ⟨-, -, -, HO, -, -⟩ Hk
    iapply Hk
    isplitl [HO]; · iexact HO
    iempintro

/-- The start of a line's first transfer, up or down, from the argument. -/
theorem wp_first_if {α : Type} {Q : α → sProp 𝕄} {k : Prog (TpuEff nD τ sig (Elt F) Λ₀ .tc) α}
    (s : Xfer) (c : Dev nD) (q : PosShare TreeShare) (hsrc : source X s c = xAt c (xOf c) q (X c)) (hown : part s c = 2 * yOf c + xOf c)
    (hfst : Sends s c → holder (dst s c) (part s c) = c)
    (l : List Xfer) {P : Prop} [Decidable P] (hP : P ↔ Sends s c)
    {off : Fin 2 → ℕ} (hoff : P → off = rowAt (part s c)) {inb : P → ∀ a, off a + S4096x1024.size a ≤ S32768x1024.size a}
    {offx : Fin 2 → ℕ} (hoffx : P → offx = rowAt (xOf c)) {inbx : P → ∀ a, offx a + S4096x1024.size a ≤ S8192x1024.size a}
    {dev : P → Dev nD} (hdev : ∀ h, dev h = dst s c) {qS qR : DmaSem sig} (hS : qS = sendQ s) (hR : qR = recvQ s)
    {hsc : ∀ h : P, (oSlice off (inb h)).view.ref.isScScratch = false} {h1 : ∀ h : P, (xSlice offx (inbx h)).view.WordExact} {h2 : ∀ h : P, (oSlice off (inb h)).view.WordExact}
    {h3 : ∀ h : P, DmaTarget.Typed .hbm (.dma qR) (.remote (Dev.tc (dev h) : Thread nD τ) (oSlice off (inb h)) (.dma qS) (hsc h))} :
    iprop(records X K ∗ given (Sends s c) (source X s c) ∗ room (F := F) s c
        ∗ owing c (owe (s :: l) c) ∗ dutyTok ER (sendC s c) 0 0 ∗ dutyTok ER (recvC s (dst s c)) 0 0)
      ⊢ iprop((owing c (owe l c) ∗ given (Sends s c) (cred (tallyAt (sendC s c) () N4)) -∗ Runs c k Q)
          -∗ Runs c (if h : P then .op (.enqueueDma (xSlice offx (inbx h)) (.remote (Dev.tc (dev h) : Thread nD τ) (oSlice off (inb h)) (.dma qS) (hsc h)) (.dma qR) (h1 h) (h2 h) (h3 h))
            (fun _ => k) else k) Q) := by
  subst hS hR
  by_cases h : P
  · have hs := hP.mp h
    obtain rfl := hoff h
    obtain rfl := hoffx h
    rw [dif_pos h]
    unfold room
    rw [given_pos hs, given_pos hs, given_pos hs]
    rw [owe_cons, due_pos hs]
    refine wp_start X K s c hs (dev h) (hdev h) l q (X c) ?_ ?_
    · rw [hsrc, xSlice_set]; rfl
    · intro fd i hi
      exact write_xSlice X c (dst s c) (xOf c) (part s c) hown (xOf_lt c) (hfst hs) _ _ fd i hi
  · have hs : ¬ Sends s c := fun h' => h (hP.mpr h')
    rw [dif_neg h, given_neg hs, given_neg hs]
    rw [owe_cons, due_neg hs, add_zero]
    iintro ⟨-, -, -, HO, -, -⟩ Hk
    iapply Hk
    isplitl [HO]; · iexact HO
    iempintro

/-! ## Transfers waited for -/

/-- The receiver's wait for transfer `s`, under the program's condition: the part it fills is `c`'s, filled. -/
theorem wp_recv_if {α : Type} {Q : α → sProp 𝕄} {k : Prog (TpuEff nD τ sig (Elt F) Λ₀ .tc) α}
    (s : Xfer) (c : Dev nD) (l : List Xfer) (hl : ∀ s' ∈ l, levelQ (recvQ s) < levelQ (recvQ s')) {P : Prop} [Decidable P] (hP : P ↔ Recvs s c)
    {q : DmaSem sig} (hq : q = recvQ s) {srcm dstm : P → Memref sig .tc .hbm S4096x1024 .f32}
    {h1 : ∀ h, (srcm h).view.WordExact} {h2 : ∀ h, (dstm h).view.WordExact} (hd : ∀ h, (dstm h).view.dmaCredit = N4) :
    iprop(records X K ∗ levAts L lv ∗ given (Recvs s c) (cred (tallyAt (recvC s c) () N4)) ∗ owing c (owe l c) ∗ atPos ER (recvC s c) 0 ∅ 0)
      ⊢ iprop((owing c (owe l c) ∗ semVal (recvC s c) 0 ∗ given (Recvs s c) (landed X s c) -∗ Runs c k Q)
          -∗ Runs c (if h : P then .op (.waitDma2 q (srcm h) (dstm h) (h1 h) (h2 h)) (fun _ => k) else k) Q) := by
  subst hq
  by_cases h : P
  · have hs := hP.mp h
    rw [dif_pos h, given_pos hs, given_pos hs]
    exact wp_await X K c (recvQ s) N4 (expect_recv X s c hs) (rest_recv X s c hs) l hl (hd h)
  · have hs : ¬ Recvs s c := fun h' => h (hP.mpr h')
    rw [dif_neg h, given_neg hs, given_neg hs]
    iintro ⟨#HR, -, -, HO, Hat⟩ Hk
    imod (close_unused X K c (recvQ s) (duties_recv_not X s c hs)) $$ [Hat] with Hz
    · isplitr; · iexact HR
      iexact Hat
    iapply Hk
    isplitl [HO]; · iexact HO
    isplitl [Hz]; · iexact Hz
    iempintro

/-- The sender's wait for transfer `s`, all transfers started: what it read is `c`'s again. -/
theorem wp_sent_if {α : Type} {Q : α → sProp 𝕄} {k : Prog (TpuEff nD τ sig (Elt F) Λ₀ .tc) α}
    (s : Xfer) (c : Dev nD) {P : Prop} [Decidable P] (hP : P ↔ Sends s c)
    {q : DmaSem sig} (hq : q = sendQ s) {srcm dstm : P → Memref sig .tc .hbm S4096x1024 .f32}
    {h1 : ∀ h, (srcm h).view.WordExact} {h2 : ∀ h, (dstm h).view.WordExact} (hd : ∀ h, (dstm h).view.dmaCredit = N4) :
    iprop(records X K ∗ levAts L lv ∗ given (Sends s c) (cred (tallyAt (sendC s c) () N4)) ∗ owing c (owe [] c) ∗ atPos ER (sendC s c) 0 ∅ 0)
      ⊢ iprop((owing c (owe [] c) ∗ semVal (sendC s c) 0 ∗ given (Sends s c) (source X s c) -∗ Runs c k Q)
          -∗ Runs c (if h : P then .op (.waitDma2 q (srcm h) (dstm h) (h1 h) (h2 h)) (fun _ => k) else k) Q) := by
  subst hq
  by_cases h : P
  · have hs := hP.mp h
    rw [dif_pos h, given_pos hs, given_pos hs]
    exact wp_await X K c (sendQ s) N4 (expect_send X s c hs) (rest_send X s c hs) [] (fun _ h => absurd h List.not_mem_nil) (hd h)
  · have hs : ¬ Sends s c := fun h' => h (hP.mpr h')
    rw [dif_neg h, given_neg hs, given_neg hs]
    iintro ⟨#HR, -, -, HO, Hat⟩ Hk
    imod (close_unused X K c (sendQ s) (duties_send_not X s c hs)) $$ [Hat] with Hz
    · isplitr; · iexact HR
      iexact Hat
    iapply Hk
    isplitl [HO]; · iexact HO
    isplitl [Hz]; · iexact Hz
    iempintro

/-- Both waits for a transfer across, of which the partner sends the same: the program has them under one condition. -/
theorem wp_across_if {α : Type} {Q : α → sProp 𝕄} {k : Prog (TpuEff nD τ sig (Elt F) Λ₀ .tc) α}
    (s : Xfer) (c : Dev nD) {P : Prop} [Decidable P] (hP : P ↔ Sends s c) (hSR : Recvs s c ↔ Sends s c)
    {qS qR : DmaSem sig} (hqS : qS = sendQ s) (hqR : qR = recvQ s) {srcm dstm srcm' dstm' : P → Memref sig .tc .hbm S4096x1024 .f32}
    {h1 : ∀ h, (srcm h).view.WordExact} {h2 : ∀ h, (dstm h).view.WordExact} (hd : ∀ h, (dstm h).view.dmaCredit = N4)
    {h1' : ∀ h, (srcm' h).view.WordExact} {h2' : ∀ h, (dstm' h).view.WordExact} (hd' : ∀ h, (dstm' h).view.dmaCredit = N4) :
    iprop(records X K ∗ levAts L lv ∗ given (Sends s c) (cred (tallyAt (sendC s c) () N4)) ∗ given (Recvs s c) (cred (tallyAt (recvC s c) () N4))
        ∗ owing c (owe [] c) ∗ atPos ER (sendC s c) 0 ∅ 0 ∗ atPos ER (recvC s c) 0 ∅ 0)
      ⊢ iprop((owing c (owe [] c) ∗ semVal (sendC s c) 0 ∗ semVal (recvC s c) 0 ∗ given (Sends s c) (source X s c) ∗ given (Recvs s c) (landed X s c) -∗ Runs c k Q)
          -∗ Runs c (if h : P then .op (.waitDma2 qS (srcm h) (dstm h) (h1 h) (h2 h)) (fun _ => .op (.waitDma2 qR (srcm' h) (dstm' h) (h1' h) (h2' h)) (fun _ => k)) else k) Q) := by
  have e : Runs c (if h : P then .op (.waitDma2 qS (srcm h) (dstm h) (h1 h) (h2 h)) (fun _ => .op (.waitDma2 qR (srcm' h) (dstm' h) (h1' h) (h2' h)) (fun _ => k)) else k) Q
      = Runs c (if h : P then .op (.waitDma2 qS (srcm h) (dstm h) (h1 h) (h2 h)) (fun _ => if h : P then .op (.waitDma2 qR (srcm' h) (dstm' h) (h1' h) (h2' h)) (fun _ => k) else k)
          else if h : P then .op (.waitDma2 qR (srcm' h) (dstm' h) (h1' h) (h2' h)) (fun _ => k) else k) Q := by
    by_cases h : P
    · simp only [dif_pos h]
    · simp only [dif_neg h]
  rw [e]
  iintro ⟨#HR, #Hlev, Hc1, Hc2, HO, Ha1, Ha2⟩ Hk
  iapply (wp_sent_if X K s c hP hqS hd) $$ [Hc1 HO Ha1]
  · isplitr; · iexact HR
    isplitr; · iexact Hlev
    isplitl [Hc1]; · iexact Hc1
    isplitl [HO] <;> iassumption
  iintro ⟨HO, Hz1, Hs⟩
  iapply (wp_recv_if X K s c [] (fun _ h => absurd h List.not_mem_nil) (hP.trans hSR.symm) hqR hd') $$ [Hc2 HO Ha2]
  · isplitr; · iexact HR
    isplitr; · iexact Hlev
    isplitl [Hc2]; · iexact Hc2
    isplitl [HO] <;> iassumption
  iintro ⟨HO, Hz2, Hl⟩
  iapply Hk
  isplitl [HO]; · iexact HO
  isplitl [Hz1]; · iexact Hz1
  isplitl [Hz2]; · iexact Hz2
  isplitl [Hs] <;> iassumption

/-! ## The local copy -/

/-- Rows owned together are owned apart. -/
theorem owned_union {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) := by
  have hu : (ℓ ↦[I ∪ J]{q} f : sProp 𝕄) ⊣⊢ iprop((ℓ ↦[I]{q} f) ∗ ℓ ↦[J]{q} f) := pointsTo_union h
  exact BI.equiv_iff.mp ⟨hu.1, hu.2⟩

/-- Equal assertions follow from one another. -/
theorem entails_of_eq {P R : sProp 𝕄} (h : P = R) : P ⊢ R := by rw [h]

/-- Its start: from a share of the argument into the device's own block of the result. -/
theorem wp_copy_own {α : Type} {Q : α → sProp 𝕄} {k : Prog (TpuEff nD τ sig (Elt F) Λ₀ .tc) α} (c : Dev nD)
    {off : Fin 2 → ℕ} (hoff : off = ![8192 * yOf c, 0]) {inb : ∀ a, off a + S8192x1024.size a ≤ S32768x1024.size a}
    {q : DmaSem sig} (hq : q = copyQ) (f : S32768x1024.Idx → Elt F .f32)
    {h1 : (xM : Memref sig .tc .hbm S8192x1024 .f32).view.WordExact} {h2 : (oBlock off inb).view.WordExact}
    {h3 : DmaTarget.Typed (nD := nD) (τ := τ) (p := .tc) .hbm (.dma q) (.here (oBlock off inb))} :
    iprop(records X K ∗ (xAt c 0 qC (X c) ∗ xAt c 1 qC (X c)) ∗ (oAt c (2 * yOf c) fullShare f ∗ oAt c (2 * yOf c + 1) fullShare f) ∗ dutyTok ER (copyC c) 0 0)
      ⊢ iprop((cred (tallyAt (copyC c) () N8) -∗ Runs c k Q)
          -∗ Runs c (.op (.enqueueDma xM (.here (oBlock off inb)) (.dma q) h1 h2 h3) (fun _ => k)) Q) := by
  subst hoff hq
  have hx : (iprop(xAt c 0 qC (X c) ∗ xAt c 1 qC (X c)) : sProp 𝕄)
      = ((xM : Memref sig .tc .hbm S8192x1024 .f32).view.loc (c : Thread nD τ) ↦[(xM : Memref sig .tc .hbm S8192x1024 .f32).view.set]{qC} X c) := by
    unfold xAt
    rw [← owned_union (ℓ := (xM : Memref sig .tc .hbm S8192x1024 .f32).view.loc (c : Thread nD τ)) (xRows_disjoint (show (0 : ℕ) ≠ 1 by decide)), xRows_all]
    exact congrArg (fun I => ((xM : Memref sig .tc .hbm S8192x1024 .f32).view.loc (c : Thread nD τ) ↦[I]{qC} X c : sProp 𝕄)) (View.set_whole main_arg0).symm
  have ho : ∀ g : S32768x1024.Idx → Elt F .f32, (iprop(oAt c (2 * yOf c) fullShare g ∗ oAt c (2 * yOf c + 1) fullShare g) : sProp 𝕄)
      = ((oBlock ![8192 * yOf c, 0] inb).view.loc (c : Thread nD τ) ↦[(oBlock ![8192 * yOf c, 0] inb).view.set]{fullShare} g) := fun g => by
    unfold oAt
    rw [← owned_union (ℓ := (oM : Memref sig .tc .hbm S32768x1024 .f32).view.loc (c : Thread nD τ)) (rows_disjoint (show 2 * yOf c ≠ 2 * yOf c + 1 by omega)), oBlock_set]
  have hw : (((oBlock ![8192 * yOf c, 0] inb).view.loc (c : Thread nD τ)) ↦[(oBlock ![8192 * yOf c, 0] inb).view.set]{fullShare}
        ((oBlock ![8192 * yOf c, 0] inb).view.write (Elt F) f ((xM : Memref sig .tc .hbm S8192x1024 .f32).view.read (Elt F) (X c)) Finset.univ) : sProp 𝕄)
      = ((oBlock ![8192 * yOf c, 0] inb).view.loc (c : Thread nD τ) ↦[(oBlock ![8192 * yOf c, 0] inb).view.set]{fullShare} gathered X c) :=
    pointsTo_congr fun i hi => write_own X c inb f i (by have := oBlock_set (yOf c) inb; rw [← this]; exact hi)
  have hx' := entails_of_eq hx
  have ho' := entails_of_eq (ho f)
  iintro ⟨#HR, Hx, Ho, Ht⟩ Hk
  ihave #Hc' := (record_dma X K c copyQ) $$ HR
  ihave Hx := hx' $$ Hx
  ihave Ho := ho' $$ Ho
  icases Hc' with ⟨#HI, #Hr⟩
  iapply (Rounds.wp_copy_pointsTo 𝒱₀ ER (plan X) (c : Thread nD τ) none (κ := K (c, some copyQ)) (r := 0) (d := 0) (q := qC) (fs := X c) (fd := f) (k := fun _ => k)
    (by rw [duties_copy]; exact Finset.mem_singleton_self _) () N8
    (show (oBlock ![8192 * yOf c, 0] inb).view.amount (.dma copyQ) = N8 from oBlock_amount _ inb) (amount_copy X c 0)
    (by
      rw [payload_copy]; unfold copied
      rw [hx, ho, hw]
      exact BI.sep_comm)) $$ [Hx Ho Ht]
  · isplitr; · iexact HI
    isplitl [Hx]; · iexact Hx
    isplitl [Ho]; · iexact Ho
    isplitl [Ht]; · iexact Ht
    iexact Hr
  iintro Hc
  iapply Hk
  iexact Hc

/-- Its end: the share back, the block filled. -/
theorem wp_copied {α : Type} {Q : α → sProp 𝕄} {k : Prog (TpuEff nD τ sig (Elt F) Λ₀ .tc) α} (c : Dev nD)
    {q : DmaSem sig} (hq : q = copyQ) {srcm dstm : Memref sig .tc .hbm S8192x1024 .f32}
    {h1 : srcm.view.WordExact} {h2 : dstm.view.WordExact} (hd : dstm.view.dmaCredit = N8) :
    iprop(records X K ∗ levAts L lv ∗ cred (tallyAt (copyC c) () N8) ∗ owing c (owe [] c) ∗ atPos ER (copyC c) 0 ∅ 0)
      ⊢ iprop((owing c (owe [] c) ∗ semVal (copyC c) 0 ∗ copied X c -∗ Runs c k Q)
          -∗ Runs c (.op (.waitDma2 q srcm dstm h1 h2) (fun _ => k)) Q) := by
  subst hq
  exact wp_await X K c copyQ N8 (expect_copy X c) (rest_copy X c) [] (fun _ h => absurd h List.not_mem_nil) hd

end Cert.Gather

end
-- ==== Proof.Parts.lean ====
module

public import proofs.«01_k».proof.Proof.Steps

/-!
# The kernel's text, in pieces

The body is twelve pieces run one after the other. Each is proved here for one device, whatever its place in the mesh,
from the steps it is made of: what it takes, what it leaves.
-/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S8192x1024.Idx → Elt F .f32) (K : Dev nD × Option (Fin 25) → ℕ)

/-! ## What a part that arrived serves for -/

/-- The share of a part that arrived and that the line needs no further. -/
def kept (s f : Xfer) (c : Dev nD) : sProp 𝕄 := given (Recvs s c ∧ ¬ Sends f c) (oAt c (inPart s c) fullShare.left (gathered X c))
/-- The same for the last step of a line, which nothing follows. -/
def keptLast (s : Xfer) (c : Dev nD) : sProp 𝕄 := given (Recvs s c) (oAt c (inPart s c) fullShare.left (gathered X c))

/-- The two halves of a share of rows. -/
theorem halves (c : Dev nD) (n : ℕ) (g : S32768x1024.Idx → Elt F .f32) :
    (oAt c n fullShare g : sProp 𝕄) = iprop(oAt c n fullShare.left g ∗ oAt c n fullShare.right g) := by
  have h : (oAt c n fullShare g : sProp 𝕄) ⊣⊢ iprop(oAt c n fullShare.left g ∗ oAt c n fullShare.right g) :=
    pointsTo_share (PosShare.mem_left_op_right fullShare)
  exact BI.equiv_iff.mp ⟨h.1, h.2⟩

theorem eq_of_both {P R : sProp 𝕄} (h : P ⊢ R) (h' : R ⊢ P) : P = R := BI.equiv_iff.mp ⟨h, h'⟩

theorem emp_left (P : sProp 𝕄) : iprop(emp ∗ P) = P := eq_of_both (by iintro ⟨-, H⟩; iexact H) (by
  iintro H
  isplitr; · iempintro
  iexact H)

/-- A part that arrived by `s` is what transfer `f` reads next along the line, if it does, else kept, and what transfer
    `a` reads across. -/
theorem landed_parts (s f a : Xfer) (c : Dev nD) (hf : Sends f c → Recvs s c) (hfp : Recvs s c → part f c = inPart s c)
    (ha : Sends a c ↔ Recvs s c) (hap : Recvs s c → part a c = inPart s c)
    (hsf : source X f c = oAt c (part f c) fullShare.left (gathered X c)) (hsa : source X a c = oAt c (part a c) fullShare.right (gathered X c)) :
    given (Recvs s c) (landed X s c) = iprop(given (Sends f c) (source X f c) ∗ kept X s f c ∗ given (Sends a c) (source X a c)) := by
  unfold kept landed
  by_cases hs : Recvs s c
  · rw [given_pos hs, given_pos (ha.mpr hs), hsf, hsa, hfp hs, hap hs, halves]
    by_cases h : Sends f c
    · rw [given_pos h, given_neg (fun h' => h'.2 h), emp_left]
    · rw [given_neg h, given_pos ⟨hs, h⟩, emp_left]
  · rw [given_neg hs, given_neg (fun h => hs (hf h)), given_neg (fun h => hs h.1), given_neg (fun h => hs (ha.mp h)), emp_left, emp_left]

/-- The last step of a line. -/
theorem landed_last (s a : Xfer) (c : Dev nD) (ha : Sends a c ↔ Recvs s c) (hap : Recvs s c → part a c = inPart s c)
    (hsa : source X a c = oAt c (part a c) fullShare.right (gathered X c)) :
    given (Recvs s c) (landed X s c) = iprop(keptLast X s c ∗ given (Sends a c) (source X a c)) := by
  unfold keptLast landed
  by_cases hs : Recvs s c
  · rw [given_pos hs, given_pos (ha.mpr hs), given_pos hs, hsa, hap hs, halves]
  · rw [given_neg hs, given_neg hs, given_neg (fun h => hs (ha.mp h)), emp_left]

theorem landed_up0 (c : Dev nD) : given (Recvs (0, 0) c) (landed X (0, 0) c)
    = iprop(given (Sends (0, 1) c) (source X (0, 1) c) ∗ kept X (0, 0) (0, 1) c ∗ given (Sends (2, 0) c) (source X (2, 0) c)) :=
  landed_parts X _ _ _ c (sends_up c).1 (part_up c).1 (sends_across 0 c).1 (part_across 0 c).1 rfl rfl
theorem landed_up1 (c : Dev nD) : given (Recvs (0, 1) c) (landed X (0, 1) c)
    = iprop(given (Sends (0, 2) c) (source X (0, 2) c) ∗ kept X (0, 1) (0, 2) c ∗ given (Sends (2, 1) c) (source X (2, 1) c)) :=
  landed_parts X _ _ _ c (sends_up c).2 (part_up c).2 (sends_across 1 c).1 (part_across 1 c).1 rfl rfl
theorem landed_up2 (c : Dev nD) : given (Recvs (0, 2) c) (landed X (0, 2) c)
    = iprop(keptLast X (0, 2) c ∗ given (Sends (2, 2) c) (source X (2, 2) c)) :=
  landed_last X _ _ c (sends_across 2 c).1 (part_across 2 c).1 rfl
theorem landed_down0 (c : Dev nD) : given (Recvs (1, 0) c) (landed X (1, 0) c)
    = iprop(given (Sends (1, 1) c) (source X (1, 1) c) ∗ kept X (1, 0) (1, 1) c ∗ given (Sends (3, 0) c) (source X (3, 0) c)) :=
  landed_parts X _ _ _ c (sends_down c).1 (part_down c).1 (sends_across 0 c).2 (part_across 0 c).2 rfl rfl
theorem landed_down1 (c : Dev nD) : given (Recvs (1, 1) c) (landed X (1, 1) c)
    = iprop(given (Sends (1, 2) c) (source X (1, 2) c) ∗ kept X (1, 1) (1, 2) c ∗ given (Sends (3, 1) c) (source X (3, 1) c)) :=
  landed_parts X _ _ _ c (sends_down c).2 (part_down c).2 (sends_across 1 c).2 (part_across 1 c).2 rfl rfl
theorem landed_down2 (c : Dev nD) : given (Recvs (1, 2) c) (landed X (1, 2) c)
    = iprop(keptLast X (1, 2) c ∗ given (Sends (3, 2) c) (source X (3, 2) c)) :=
  landed_last X _ _ c (sends_across 2 c).2 (part_across 2 c).2 rfl

/-! ## The steps, by transfer -/

/-- What `c` reads for `s`, if it takes part. -/
def reads (s : Xfer) (c : Dev nD) : sProp 𝕄 := given (Sends s c) (source X s c)
/-- What `c` starts `s` with, besides what it reads: the room at the receiver, and both ends' turns. -/
def ready (s : Xfer) (c : Dev nD) : sProp 𝕄 :=
  iprop(room (F := F) s c ∗ dutyTok ER (sendC s c) 0 0 ∗ dutyTok ER (recvC s (dst s c)) 0 0)
/-- `s` is on its way from `c`. -/
def flight (s : Xfer) (c : Dev nD) : sProp 𝕄 := given (F := F) (Sends s c) (cred (tallyAt (sendC s c) () N4))
/-- `s` is on its way to `c`. -/
def awaits (s : Xfer) (c : Dev nD) : sProp 𝕄 := iprop(given (F := F) (Recvs s c) (cred (tallyAt (recvC s c) () N4)) ∗ atPos ER (recvC s c) 0 ∅ 0)
/-- `s` has come to `c`. -/
def arrived (s : Xfer) (c : Dev nD) : sProp 𝕄 := given (Recvs s c) (landed X s c)
/-- What every device knows: the cells' plan, and the levels. -/
def known : sProp 𝕄 := iprop(records X K ∗ levAts L lv)

instance known_persistent : BI.Persistent (known X K) := by unfold known; infer_instance

/-! ## The pieces -/

theorem down_lt : ∀ c, 0 < yOf c → yOf (down c) < 3 := by decide +kernel
theorem up_pos : ∀ c, yOf c < 3 → 0 < yOf (up c) := by decide +kernel

/-- What the device computes of its own place: whether it has a lower neighbour, and whether it has an upper one. -/
theorem place_low : ∀ c : Dev nD, Scalar.cmpi .sgt (Scalar.remsi (Scalar.divsi (Dev.word c) 4#32) 4#32) 0#32 = 1#1 ↔ 0 < yOf c := by decide +kernel
theorem place_high : ∀ c : Dev nD, Scalar.cmpi .slt (Scalar.remsi (Scalar.divsi (Dev.word c) 4#32) 4#32) 3#32 = 1#1 ↔ yOf c < 3 := by decide +kernel

/-- The two conditions the waits at the barrier stand under, one where both hold, the other where not both do. -/
theorem both_bits : ∀ a b : BitVec 1, (Scalar.cmpi .ne (Scalar.extui (Scalar.andi a b) : BitVec 32) 0#32 = 1#1 ↔ a = 1#1 ∧ b = 1#1)
    ∧ (Scalar.cmpi .ne (Scalar.extui (Scalar.xori (Scalar.andi a b) 1#1) : BitVec 32) 0#32 = 1#1 ↔ ¬ (a = 1#1 ∧ b = 1#1)) := by decide +kernel

/-- The device reads its number, and computes its neighbours' and whether it has them. -/
theorem wp_part1 (c : Dev nD) {Q : _ → sProp 𝕄} :
    (iprop(∀ v2, ∀ v5, ∀ v8, ∀ v9, ∀ v20, ∀ v32, ∀ v33, ∀ v34, ⌜(v34 = 1#1 ↔ 0 < yOf c) ∧ (Scalar.cmpi .slt v5 3#32 = 1#1 ↔ yOf c < 3)⌝
        -∗ Q ⟨c, v2, v5, v8, v9, v20, v32, v33, v34⟩) : sProp 𝕄)
      ⊢ Runs c (k0_part1 xM (Memref.isWhole_whole _) oM (Memref.isWhole_whole _) cc0_scratch0 cc0_scratch1 cc0_scratch2 cc0_scratch3 cc0_scratch4 cc0_scratch5 cc0_scratch6) Q := by
  simp only [k0_part1_eq_skeleton]
  unfold k0_part1_skel
  simp only [Prog.lift, Prog.bind_op, Prog.bind_ret, Prog.pure_eq_ret, wp_deviceId]
  iintro H
  iapply (runs_ret c _)
  iapply H
  ipureintro
  exact ⟨place_low c, place_high c⟩

/-- The signals to the neighbours, each with room in this device's result; the wait for theirs; the local copy starts. -/
theorem wp_part2 (c : Dev nD) (v2 v5 v8 v9 v20 v32 : BitVec 32) (v34 : BitVec 1) (h0 : v34 = 1#1 ↔ 0 < yOf c) (h3 : Scalar.cmpi .slt v5 3#32 = 1#1 ↔ yOf c < 3)
    (f : S32768x1024.Idx → Elt F .f32) {Q : _ → sProp 𝕄} :
    iprop(known X K ∗ owing c (O₀ c)
        ∗ (dutyTok ER (barC (partner c)) 0 0 ∗ grant (F := F) (partner c) 0) ∗ (dutyTok ER (barC (down c)) 0 2 ∗ given (0 < yOf c) (grant (F := F) (down c) 2))
        ∗ (dutyTok ER (barC (up c)) 0 1 ∗ given (yOf c < 3) (grant (F := F) (up c) 1))
        ∗ (cred (tallyAt (barC c) () (units c)) ∗ atPos ER (barC c) 0 ∅ 0)
        ∗ (xAt c 0 qC (X c) ∗ xAt c 1 qC (X c)) ∗ (oAt c (2 * yOf c) fullShare f ∗ oAt c (2 * yOf c + 1) fullShare f) ∗ dutyTok ER (copyC c) 0 0)
      ⊢ iprop((∀ r, owing c (owe order c) ∗ semVal (barC c) 0 ∗ (grant c 0 ∗ grant c 1 ∗ grant (F := F) c 2) ∗ cred (tallyAt (copyC c) () N8) -∗ Q r)
          -∗ Runs c (k0_part2 xM (Memref.isWhole_whole _) oM (Memref.isWhole_whole _) cc0_scratch0 cc0_scratch1 cc0_scratch2 cc0_scratch3 cc0_scratch4 cc0_scratch5 cc0_scratch6
            c v2 v5 v8 v9 v20 v32 v34) Q) := by
  simp only [k0_part2_eq_skeleton]
  unfold k0_part2_skel
  simp only [semSignalWord, semWaitWord, Prog.lift, Prog.bind_op, Prog.bind_ret, Prog.pure_eq_ret]
  unfold known
  iintro ⟨⟨#HR, #Hlev⟩, HO, ⟨Ht0, Hg0⟩, ⟨Ht2, Hg2⟩, ⟨Ht1, Hg1⟩, ⟨Hc, Ha⟩, Hx, Ho, Htc⟩ Hk
  rw [dev1_eq c]
  iapply (wp_tell X K c (partner c) 0 (mem_bar0 X (partner c)) (O₁ c)) $$ [HO Ht0 Hg0]
  · isplitr; · iexact HR
    isplitl [HO]; · iexact HO
    isplitl [Ht0] <;> iassumption
  iintro HO
  iapply (wp_tell_if X K c (down c) 2 (0 < yOf c) (cond1_iff c) (fun h => mem_bar2 X (down c) (down_lt c h)) (O₂ c) _ (dev2_eq c)) $$ [HO Ht2 Hg2]
  · isplitr; · iexact HR
    isplitl [HO]; · iexact HO
    isplitl [Ht2] <;> iassumption
  iintro HO
  iapply (wp_tell_if X K c (up c) 1 (yOf c < 3) (cond2_iff c) (fun h => mem_bar1 X (up c) (up_pos c h)) (O₃ c) _ (dev3_eq c)) $$ [HO Ht1 Hg1]
  · isplitr; · iexact HR
    isplitl [HO]; · iexact HO
    isplitl [Ht1] <;> iassumption
  iintro HO
  iapply (wp_barrier_if X K c ((both_bits v34 _).1.trans (and_congr h0 h3)) ((both_bits v34 _).2.trans (not_congr (and_congr h0 h3)))) $$ [HO Hc Ha]
  · isplitr; · iexact HR
    isplitr; · iexact Hlev
    isplitl [Hc]; · iexact Hc
    isplitl [HO] <;> iassumption
  iintro ⟨HO, Hz, Hg⟩
  iapply (wp_copy_own X K c (off1_eq c) rfl f) $$ [Hx Ho Htc]
  · isplitr; · iexact HR
    isplitl [Hx]; · iexact Hx
    isplitl [Ho] <;> iassumption
  iintro Hcc
  iapply (runs_ret c _)
  iapply Hk
  isplitl [HO]; · iexact HO
  isplitl [Hz]; · iexact Hz
  isplitl [Hg] <;> iassumption

/-- Five pieces compute numbers only: which rows go where. -/
theorem wp_part3 (c : Dev nD) (v5 v33 v66 v67 : BitVec 32) {Q : _ → sProp 𝕄} : (iprop(∀ r, Q r) : sProp 𝕄) ⊢ Runs c (k0_part3 xM (Memref.isWhole_whole _) oM (Memref.isWhole_whole _) cc0_scratch0 cc0_scratch1 cc0_scratch2 cc0_scratch3 cc0_scratch4 cc0_scratch5 cc0_scratch6 v5 v33 v66 v67) Q := by
  simp only [k0_part3_eq_skeleton]
  unfold k0_part3_skel
  simp only [Prog.pure_eq_ret]
  iintro H
  iapply (runs_ret c _)
  iapply H

theorem wp_part4 (c : Dev nD) (v5 v33 v95 v98 v99 : BitVec 32) (v100 v101 v102 : BitVec 1) {Q : _ → sProp 𝕄} : (iprop(∀ r, Q r) : sProp 𝕄) ⊢ Runs c (k0_part4 xM (Memref.isWhole_whole _) oM (Memref.isWhole_whole _) cc0_scratch0 cc0_scratch1 cc0_scratch2 cc0_scratch3 cc0_scratch4 cc0_scratch5 cc0_scratch6 v5 v33 v95 v98 v99 v100 v101 v102) Q := by
  simp only [k0_part4_eq_skeleton]
  unfold k0_part4_skel
  simp only [Prog.pure_eq_ret]
  iintro H
  iapply (runs_ret c _)
  iapply H

theorem wp_part5 (c : Dev nD) (v5 v33 v129 v140 : BitVec 32) {Q : _ → sProp 𝕄} : (iprop(∀ r, Q r) : sProp 𝕄) ⊢ Runs c (k0_part5 xM (Memref.isWhole_whole _) oM (Memref.isWhole_whole _) cc0_scratch0 cc0_scratch1 cc0_scratch2 cc0_scratch3 cc0_scratch4 cc0_scratch5 cc0_scratch6 v5 v33 v129 v140) Q := by
  simp only [k0_part5_eq_skeleton]
  unfold k0_part5_skel
  simp only [Prog.pure_eq_ret]
  iintro H
  iapply (runs_ret c _)
  iapply H

theorem wp_part6 (c : Dev nD) (v5 v33 v164 v176 : BitVec 32) {Q : _ → sProp 𝕄} : (iprop(∀ r, Q r) : sProp 𝕄) ⊢ Runs c (k0_part6 xM (Memref.isWhole_whole _) oM (Memref.isWhole_whole _) cc0_scratch0 cc0_scratch1 cc0_scratch2 cc0_scratch3 cc0_scratch4 cc0_scratch5 cc0_scratch6 v5 v33 v164 v176) Q := by
  simp only [k0_part6_eq_skeleton]
  unfold k0_part6_skel
  simp only [Prog.pure_eq_ret]
  iintro H
  iapply (runs_ret c _)
  iapply H

theorem wp_part7 (c : Dev nD) (v5 v33 v200 v212 : BitVec 32) {Q : _ → sProp 𝕄} : (iprop(∀ r, Q r) : sProp 𝕄) ⊢ Runs c (k0_part7 xM (Memref.isWhole_whole _) oM (Memref.isWhole_whole _) cc0_scratch0 cc0_scratch1 cc0_scratch2 cc0_scratch3 cc0_scratch4 cc0_scratch5 cc0_scratch6 v5 v33 v200 v212) Q := by
  simp only [k0_part7_eq_skeleton]
  unfold k0_part7_skel
  simp only [Prog.pure_eq_ret]
  iintro H
  iapply (runs_ret c _)
  iapply H

set_option maxHeartbeats 1600000 in
/-- The line's first transfers start, up and down; what came up from below goes on up. -/
theorem wp_part8 (c : Dev nD) (v2 v5 v8 v20 v32 v33 : BitVec 32) (v34 v35 : BitVec 1) (v236 v248 : BitVec 32) {Q : _ → sProp 𝕄} :
    iprop(known X K ∗ owing c (owe order c) ∗ (reads X (0, 0) c ∗ reads X (1, 0) c)
        ∗ (ready (F := F) (0, 0) c ∗ ready (F := F) (1, 0) c ∗ ready (F := F) (0, 1) c) ∗ awaits (F := F) (0, 0) c)
      ⊢ iprop((∀ r, owing c (owe (order.drop 3) c) ∗ (flight (0, 0) c ∗ flight (1, 0) c ∗ flight (0, 1) c)
            ∗ (semVal (recvC (0, 0) c) 0) ∗ (kept X (0, 0) (0, 1) c) ∗ reads X (2, 0) c -∗ Q r)
          -∗ Runs c (k0_part8 xM (Memref.isWhole_whole _) oM (Memref.isWhole_whole _) cc0_scratch0 cc0_scratch1 cc0_scratch2 cc0_scratch3 cc0_scratch4 cc0_scratch5 cc0_scratch6
            c v2 v5 v8 v20 v32 v33 v34 v35 v236 v248) Q) := by
  simp only [k0_part8_eq_skeleton]
  unfold k0_part8_skel
  simp only [Prog.lift, Prog.bind_op, Prog.bind_ret, Prog.pure_eq_ret]
  unfold known reads ready awaits flight
  iintro ⟨⟨#HR, #Hlev⟩, HO, ⟨Hs00, Hs10⟩, ⟨⟨Hd00, Ht00, Hu00⟩, ⟨Hd10, Ht10, Hu10⟩, ⟨Hd01, Ht01, Hu01⟩⟩, ⟨Hc00, Ha00⟩⟩ Hk
  iapply (wp_first_if X K (0, 0) c qU rfl (part_own c).1 (fun h => (holder_first c).1 h) (order.drop 1) (cond5_iff c) (off2_eq c) (off3_eq c) (dev4_eq c) rfl rfl) $$ [HO Hs00 Hd00 Ht00 Hu00]
  · isplitr; · iexact HR
    isplitl [Hs00]; · iexact Hs00
    isplitl [Hd00]; · iexact Hd00
    isplitl [HO]; · iexact HO
    isplitl [Ht00] <;> iassumption
  iintro ⟨HO, Hf00⟩
  iapply (wp_first_if X K (1, 0) c qD rfl (part_own c).2 (fun h => (holder_first c).2 h) (order.drop 2) (cond6_iff c) (off4_eq c) (off5_eq c) (dev5_eq c) rfl rfl) $$ [HO Hs10 Hd10 Ht10 Hu10]
  · isplitr; · iexact HR
    isplitl [Hs10]; · iexact Hs10
    isplitl [Hd10]; · iexact Hd10
    isplitl [HO]; · iexact HO
    isplitl [Ht10] <;> iassumption
  iintro ⟨HO, Hf10⟩
  iapply (wp_recv_if X K (0, 0) c (order.drop 2) (by decide) (cond7_iff c) rfl (fun h => oSlice_amount _ _)) $$ [HO Hc00 Ha00]
  · isplitr; · iexact HR
    isplitr; · iexact Hlev
    isplitl [Hc00]; · iexact Hc00
    isplitl [HO] <;> iassumption
  rw [landed_up0 X c]
  iintro ⟨HO, Hz00, Hs01, Hk00, Hs20⟩
  iapply (wp_forward_if X K (0, 1) c (by decide) (order.drop 3) (cond8_iff c) (off8_eq c) (dev6_eq c) rfl rfl) $$ [HO Hs01 Hd01 Ht01 Hu01]
  · isplitr; · iexact HR
    isplitl [Hs01]; · iexact Hs01
    isplitl [Hd01]; · iexact Hd01
    isplitl [HO]; · iexact HO
    isplitl [Ht01] <;> iassumption
  iintro ⟨HO, Hf01⟩
  iapply (runs_ret c _)
  iapply Hk
  isplitl [HO]; · iexact HO
  isplitl [Hf00 Hf10 Hf01]
  · isplitl [Hf00]; · iexact Hf00
    isplitl [Hf10]; · iexact Hf10
    iexact Hf01
  isplitl [Hz00]; · iexact Hz00
  isplitl [Hk00]; · iexact Hk00
  iexact Hs20

set_option maxHeartbeats 1600000 in
/-- What came up goes across, what came down goes on down and across; the second part to come up goes on up and across. -/
theorem wp_part9 (c : Dev nD) (v2 v5 v8 v9 v20 v32 : BitVec 32) (v34 v35 v266 : BitVec 1) (v272 : BitVec 32) {Q : _ → sProp 𝕄} :
    iprop(known X K ∗ owing c (owe (order.drop 3) c) ∗ (reads X (2, 0) c)
        ∗ (ready (F := F) (2, 0) c ∗ ready (F := F) (1, 1) c ∗ ready (F := F) (3, 0) c ∗ ready (F := F) (0, 2) c ∗ ready (F := F) (2, 1) c) ∗ awaits (F := F) (1, 0) c ∗ awaits (F := F) (0, 1) c)
      ⊢ iprop((∀ r, owing c (owe (order.drop 8) c) ∗ (flight (2, 0) c ∗ flight (1, 1) c ∗ flight (3, 0) c ∗ flight (0, 2) c ∗ flight (2, 1) c)
            ∗ (semVal (recvC (1, 0) c) 0 ∗ semVal (recvC (0, 1) c) 0) ∗ (kept X (1, 0) (1, 1) c ∗ kept X (0, 1) (0, 2) c) -∗ Q r)
          -∗ Runs c (k0_part9 xM (Memref.isWhole_whole _) oM (Memref.isWhole_whole _) cc0_scratch0 cc0_scratch1 cc0_scratch2 cc0_scratch3 cc0_scratch4 cc0_scratch5 cc0_scratch6
            c v2 v5 v8 v9 v20 v32 v34 v35 v266 v272) Q) := by
  simp only [k0_part9_eq_skeleton]
  unfold k0_part9_skel
  simp only [Prog.lift, Prog.bind_op, Prog.bind_ret, Prog.pure_eq_ret]
  unfold known reads ready awaits flight
  iintro ⟨⟨#HR, #Hlev⟩, HO, Hs20, ⟨⟨Hd20, Ht20, Hu20⟩, ⟨Hd11, Ht11, Hu11⟩, ⟨Hd30, Ht30, Hu30⟩, ⟨Hd02, Ht02, Hu02⟩, ⟨Hd21, Ht21, Hu21⟩⟩, ⟨Hc10, Ha10⟩, ⟨Hc01, Ha01⟩⟩ Hk
  iapply (wp_forward_if X K (2, 0) c (by decide) (order.drop 4) (cond9_iff c) (off9_eq c) (dev7_eq c) rfl rfl) $$ [HO Hs20 Hd20 Ht20 Hu20]
  · isplitr; · iexact HR
    isplitl [Hs20]; · iexact Hs20
    isplitl [Hd20]; · iexact Hd20
    isplitl [HO]; · iexact HO
    isplitl [Ht20] <;> iassumption
  iintro ⟨HO, Hf20⟩
  iapply (wp_recv_if X K (1, 0) c (order.drop 4) (by decide) (cond10_iff c) rfl (fun h => oSlice_amount _ _)) $$ [HO Hc10 Ha10]
  · isplitr; · iexact HR
    isplitr; · iexact Hlev
    isplitl [Hc10]; · iexact Hc10
    isplitl [HO] <;> iassumption
  rw [landed_down0 X c]
  iintro ⟨HO, Hz10, Hs11, Hk10, Hs30⟩
  iapply (wp_forward_if X K (1, 1) c (by decide) (order.drop 5) (cond11_iff c) (off12_eq c) (dev8_eq c) rfl rfl) $$ [HO Hs11 Hd11 Ht11 Hu11]
  · isplitr; · iexact HR
    isplitl [Hs11]; · iexact Hs11
    isplitl [Hd11]; · iexact Hd11
    isplitl [HO]; · iexact HO
    isplitl [Ht11] <;> iassumption
  iintro ⟨HO, Hf11⟩
  iapply (wp_forward_if X K (3, 0) c (by decide) (order.drop 6) (cond12_iff c) (off13_eq c) (dev9_eq c) rfl rfl) $$ [HO Hs30 Hd30 Ht30 Hu30]
  · isplitr; · iexact HR
    isplitl [Hs30]; · iexact Hs30
    isplitl [Hd30]; · iexact Hd30
    isplitl [HO]; · iexact HO
    isplitl [Ht30] <;> iassumption
  iintro ⟨HO, Hf30⟩
  iapply (wp_recv_if X K (0, 1) c (order.drop 6) (by decide) (cond13_iff c) rfl (fun h => oSlice_amount _ _)) $$ [HO Hc01 Ha01]
  · isplitr; · iexact HR
    isplitr; · iexact Hlev
    isplitl [Hc01]; · iexact Hc01
    isplitl [HO] <;> iassumption
  rw [landed_up1 X c]
  iintro ⟨HO, Hz01, Hs02, Hk01, Hs21⟩
  iapply (wp_forward_if X K (0, 2) c (by decide) (order.drop 7) (cond14_iff c) (off15_eq c) (dev10_eq c) rfl rfl) $$ [HO Hs02 Hd02 Ht02 Hu02]
  · isplitr; · iexact HR
    isplitl [Hs02]; · iexact Hs02
    isplitl [Hd02]; · iexact Hd02
    isplitl [HO]; · iexact HO
    isplitl [Ht02] <;> iassumption
  iintro ⟨HO, Hf02⟩
  iapply (wp_forward_if X K (2, 1) c (by decide) (order.drop 8) (cond15_iff c) (off16_eq c) (dev11_eq c) rfl rfl) $$ [HO Hs21 Hd21 Ht21 Hu21]
  · isplitr; · iexact HR
    isplitl [Hs21]; · iexact Hs21
    isplitl [Hd21]; · iexact Hd21
    isplitl [HO]; · iexact HO
    isplitl [Ht21] <;> iassumption
  iintro ⟨HO, Hf21⟩
  iapply (runs_ret c _)
  iapply Hk
  isplitl [HO]; · iexact HO
  isplitl [Hf20 Hf11 Hf30 Hf02 Hf21]
  · isplitl [Hf20]; · iexact Hf20
    isplitl [Hf11]; · iexact Hf11
    isplitl [Hf30]; · iexact Hf30
    isplitl [Hf02]; · iexact Hf02
    iexact Hf21
  isplitl [Hz10 Hz01]
  · isplitl [Hz10]; · iexact Hz10
    iexact Hz01
  isplitl [Hk10]; · iexact Hk10
  iexact Hk01

set_option maxHeartbeats 1600000 in
/-- The second part to come down goes on down and across; the last ones to come up and down go across. -/
theorem wp_part10 (c : Dev nD) (v2 v5 v8 v9 v20 v32 : BitVec 32) (v34 v282 : BitVec 1) (v290 : BitVec 32) {Q : _ → sProp 𝕄} :
    iprop(known X K ∗ owing c (owe (order.drop 8) c)
        ∗ (ready (F := F) (1, 2) c ∗ ready (F := F) (3, 1) c ∗ ready (F := F) (2, 2) c ∗ ready (F := F) (3, 2) c) ∗ awaits (F := F) (1, 1) c ∗ awaits (F := F) (0, 2) c ∗ awaits (F := F) (1, 2) c)
      ⊢ iprop((∀ r, owing c (owe (order.drop 12) c) ∗ (flight (1, 2) c ∗ flight (3, 1) c ∗ flight (2, 2) c ∗ flight (3, 2) c)
            ∗ (semVal (recvC (1, 1) c) 0 ∗ semVal (recvC (0, 2) c) 0 ∗ semVal (recvC (1, 2) c) 0) ∗ (kept X (1, 1) (1, 2) c ∗ keptLast X (0, 2) c ∗ keptLast X (1, 2) c) -∗ Q r)
          -∗ Runs c (k0_part10 xM (Memref.isWhole_whole _) oM (Memref.isWhole_whole _) cc0_scratch0 cc0_scratch1 cc0_scratch2 cc0_scratch3 cc0_scratch4 cc0_scratch5 cc0_scratch6
            c v2 v5 v8 v9 v20 v32 v34 v282 v290) Q) := by
  simp only [k0_part10_eq_skeleton]
  unfold k0_part10_skel
  simp only [Prog.lift, Prog.bind_op, Prog.bind_ret, Prog.pure_eq_ret]
  unfold known ready awaits flight
  iintro ⟨⟨#HR, #Hlev⟩, HO, ⟨⟨Hd12, Ht12, Hu12⟩, ⟨Hd31, Ht31, Hu31⟩, ⟨Hd22, Ht22, Hu22⟩, ⟨Hd32, Ht32, Hu32⟩⟩, ⟨Hc11, Ha11⟩, ⟨Hc02, Ha02⟩, ⟨Hc12, Ha12⟩⟩ Hk
  iapply (wp_recv_if X K (1, 1) c (order.drop 8) (by decide) (cond16_iff c) rfl (fun h => oSlice_amount _ _)) $$ [HO Hc11 Ha11]
  · isplitr; · iexact HR
    isplitr; · iexact Hlev
    isplitl [Hc11]; · iexact Hc11
    isplitl [HO] <;> iassumption
  rw [landed_down1 X c]
  iintro ⟨HO, Hz11, Hs12, Hk11, Hs31⟩
  iapply (wp_forward_if X K (1, 2) c (by decide) (order.drop 9) (cond17_iff c) (off18_eq c) (dev12_eq c) rfl rfl) $$ [HO Hs12 Hd12 Ht12 Hu12]
  · isplitr; · iexact HR
    isplitl [Hs12]; · iexact Hs12
    isplitl [Hd12]; · iexact Hd12
    isplitl [HO]; · iexact HO
    isplitl [Ht12] <;> iassumption
  iintro ⟨HO, Hf12⟩
  iapply (wp_forward_if X K (3, 1) c (by decide) (order.drop 10) (cond18_iff c) (off19_eq c) (dev13_eq c) rfl rfl) $$ [HO Hs31 Hd31 Ht31 Hu31]
  · isplitr; · iexact HR
    isplitl [Hs31]; · iexact Hs31
    isplitl [Hd31]; · iexact Hd31
    isplitl [HO]; · iexact HO
    isplitl [Ht31] <;> iassumption
  iintro ⟨HO, Hf31⟩
  iapply (wp_recv_if X K (0, 2) c (order.drop 10) (by decide) (cond19_iff c) rfl (fun h => oSlice_amount _ _)) $$ [HO Hc02 Ha02]
  · isplitr; · iexact HR
    isplitr; · iexact Hlev
    isplitl [Hc02]; · iexact Hc02
    isplitl [HO] <;> iassumption
  rw [landed_up2 X c]
  iintro ⟨HO, Hz02, Hk02, Hs22⟩
  iapply (wp_forward_if X K (2, 2) c (by decide) (order.drop 11) (cond20_iff c) (off21_eq c) (dev14_eq c) rfl rfl) $$ [HO Hs22 Hd22 Ht22 Hu22]
  · isplitr; · iexact HR
    isplitl [Hs22]; · iexact Hs22
    isplitl [Hd22]; · iexact Hd22
    isplitl [HO]; · iexact HO
    isplitl [Ht22] <;> iassumption
  iintro ⟨HO, Hf22⟩
  iapply (wp_recv_if X K (1, 2) c (order.drop 11) (by decide) (cond21_iff c) rfl (fun h => oSlice_amount _ _)) $$ [HO Hc12 Ha12]
  · isplitr; · iexact HR
    isplitr; · iexact Hlev
    isplitl [Hc12]; · iexact Hc12
    isplitl [HO] <;> iassumption
  rw [landed_down2 X c]
  iintro ⟨HO, Hz12, Hk12, Hs32⟩
  iapply (wp_forward_if X K (3, 2) c (by decide) (order.drop 12) (cond22_iff c) (off23_eq c) (dev15_eq c) rfl rfl) $$ [HO Hs32 Hd32 Ht32 Hu32]
  · isplitr; · iexact HR
    isplitl [Hs32]; · iexact Hs32
    isplitl [Hd32]; · iexact Hd32
    isplitl [HO]; · iexact HO
    isplitl [Ht32] <;> iassumption
  iintro ⟨HO, Hf32⟩
  iapply (runs_ret c _)
  iapply Hk
  isplitl [HO]; · iexact HO
  isplitl [Hf12 Hf31 Hf22 Hf32]
  · isplitl [Hf12]; · iexact Hf12
    isplitl [Hf31]; · iexact Hf31
    isplitl [Hf22]; · iexact Hf22
    iexact Hf32
  isplitl [Hz11 Hz02 Hz12]
  · isplitl [Hz11]; · iexact Hz11
    isplitl [Hz02]; · iexact Hz02
    iexact Hz12
  isplitl [Hk11]; · iexact Hk11
  isplitl [Hk02]; · iexact Hk02
  iexact Hk12

/-- The waits for what goes across, at both ends. -/
theorem wp_part11 (c : Dev nD) (v5 v8 v9 : BitVec 32) {Q : _ → sProp 𝕄} :
    iprop(known X K ∗ owing c (owe [] c)
        ∗ (flight (F := F) (2, 0) c ∗ atPos ER (sendC (2, 0) c) 0 ∅ 0 ∗ awaits (F := F) (2, 0) c)
        ∗ (flight (F := F) (3, 0) c ∗ atPos ER (sendC (3, 0) c) 0 ∅ 0 ∗ awaits (F := F) (3, 0) c)
        ∗ (flight (F := F) (2, 1) c ∗ atPos ER (sendC (2, 1) c) 0 ∅ 0 ∗ awaits (F := F) (2, 1) c)
        ∗ (flight (F := F) (3, 1) c ∗ atPos ER (sendC (3, 1) c) 0 ∅ 0 ∗ awaits (F := F) (3, 1) c)
        ∗ (flight (F := F) (2, 2) c ∗ atPos ER (sendC (2, 2) c) 0 ∅ 0 ∗ awaits (F := F) (2, 2) c)
        ∗ (flight (F := F) (3, 2) c ∗ atPos ER (sendC (3, 2) c) 0 ∅ 0 ∗ awaits (F := F) (3, 2) c))
      ⊢ iprop((∀ r, owing c (owe [] c)
            ∗ (semVal (sendC (2, 0) c) 0 ∗ semVal (recvC (2, 0) c) 0 ∗ reads X (2, 0) c ∗ arrived X (2, 0) c)
            ∗ (semVal (sendC (3, 0) c) 0 ∗ semVal (recvC (3, 0) c) 0 ∗ reads X (3, 0) c ∗ arrived X (3, 0) c)
            ∗ (semVal (sendC (2, 1) c) 0 ∗ semVal (recvC (2, 1) c) 0 ∗ reads X (2, 1) c ∗ arrived X (2, 1) c)
            ∗ (semVal (sendC (3, 1) c) 0 ∗ semVal (recvC (3, 1) c) 0 ∗ reads X (3, 1) c ∗ arrived X (3, 1) c)
            ∗ (semVal (sendC (2, 2) c) 0 ∗ semVal (recvC (2, 2) c) 0 ∗ reads X (2, 2) c ∗ arrived X (2, 2) c)
            ∗ (semVal (sendC (3, 2) c) 0 ∗ semVal (recvC (3, 2) c) 0 ∗ reads X (3, 2) c ∗ arrived X (3, 2) c) -∗ Q r)
          -∗ Runs c (k0_part11 xM (Memref.isWhole_whole _) oM (Memref.isWhole_whole _) cc0_scratch0 cc0_scratch1 cc0_scratch2 cc0_scratch3 cc0_scratch4 cc0_scratch5 cc0_scratch6 c v5 v8 v9) Q) := by
  simp only [k0_part11_eq_skeleton]
  unfold k0_part11_skel
  simp only [Prog.lift, Prog.bind_op, Prog.bind_ret, Prog.pure_eq_ret]
  unfold known reads arrived awaits flight
  iintro ⟨⟨#HR, #Hlev⟩, HO, ⟨Hf20, Ha20, Hc20, Hb20⟩, ⟨Hf30, Ha30, Hc30, Hb30⟩, ⟨Hf21, Ha21, Hc21, Hb21⟩, ⟨Hf31, Ha31, Hc31, Hb31⟩, ⟨Hf22, Ha22, Hc22, Hb22⟩, ⟨Hf32, Ha32, Hc32, Hb32⟩⟩ Hk
  iapply (wp_across_if X K (2, 0) c (cond23_iff c) (recvs_across 0 c).1 rfl rfl (fun h => oSlice_amount _ _) (fun h => oSlice_amount _ _)) $$ [HO Hf20 Ha20 Hc20 Hb20]
  · isplitr; · iexact HR
    isplitr; · iexact Hlev
    isplitl [Hf20]; · iexact Hf20
    isplitl [Hc20]; · iexact Hc20
    isplitl [HO]; · iexact HO
    isplitl [Ha20] <;> iassumption
  iintro ⟨HO, Hp20⟩
  iapply (wp_across_if X K (3, 0) c (cond24_iff c) (recvs_across 0 c).2 rfl rfl (fun h => oSlice_amount _ _) (fun h => oSlice_amount _ _)) $$ [HO Hf30 Ha30 Hc30 Hb30]
  · isplitr; · iexact HR
    isplitr; · iexact Hlev
    isplitl [Hf30]; · iexact Hf30
    isplitl [Hc30]; · iexact Hc30
    isplitl [HO]; · iexact HO
    isplitl [Ha30] <;> iassumption
  iintro ⟨HO, Hp30⟩
  iapply (wp_across_if X K (2, 1) c (cond25_iff c) (recvs_across 1 c).1 rfl rfl (fun h => oSlice_amount _ _) (fun h => oSlice_amount _ _)) $$ [HO Hf21 Ha21 Hc21 Hb21]
  · isplitr; · iexact HR
    isplitr; · iexact Hlev
    isplitl [Hf21]; · iexact Hf21
    isplitl [Hc21]; · iexact Hc21
    isplitl [HO]; · iexact HO
    isplitl [Ha21] <;> iassumption
  iintro ⟨HO, Hp21⟩
  iapply (wp_across_if X K (3, 1) c (cond26_iff c) (recvs_across 1 c).2 rfl rfl (fun h => oSlice_amount _ _) (fun h => oSlice_amount _ _)) $$ [HO Hf31 Ha31 Hc31 Hb31]
  · isplitr; · iexact HR
    isplitr; · iexact Hlev
    isplitl [Hf31]; · iexact Hf31
    isplitl [Hc31]; · iexact Hc31
    isplitl [HO]; · iexact HO
    isplitl [Ha31] <;> iassumption
  iintro ⟨HO, Hp31⟩
  iapply (wp_across_if X K (2, 2) c (cond27_iff c) (recvs_across 2 c).1 rfl rfl (fun h => oSlice_amount _ _) (fun h => oSlice_amount _ _)) $$ [HO Hf22 Ha22 Hc22 Hb22]
  · isplitr; · iexact HR
    isplitr; · iexact Hlev
    isplitl [Hf22]; · iexact Hf22
    isplitl [Hc22]; · iexact Hc22
    isplitl [HO]; · iexact HO
    isplitl [Ha22] <;> iassumption
  iintro ⟨HO, Hp22⟩
  iapply (wp_across_if X K (3, 2) c (cond28_iff c) (recvs_across 2 c).2 rfl rfl (fun h => oSlice_amount _ _) (fun h => oSlice_amount _ _)) $$ [HO Hf32 Ha32 Hc32 Hb32]
  · isplitr; · iexact HR
    isplitr; · iexact Hlev
    isplitl [Hf32]; · iexact Hf32
    isplitl [Hc32]; · iexact Hc32
    isplitl [HO]; · iexact HO
    isplitl [Ha32] <;> iassumption
  iintro ⟨HO, Hp32⟩
  iapply (runs_ret c _)
  iapply Hk
  isplitl [HO]; · iexact HO
  isplitl [Hp20]; · iexact Hp20
  isplitl [Hp30]; · iexact Hp30
  isplitl [Hp21]; · iexact Hp21
  isplitl [Hp31]; · iexact Hp31
  isplitl [Hp22]; · iexact Hp22
  iexact Hp32

/-- The sender's waits for what went along the line, all but the last. -/
theorem wp_part12 (c : Dev nD) (v5 : BitVec 32) (v34 v35 : BitVec 1) {Q : _ → sProp 𝕄} :
    iprop(known X K ∗ owing c (owe [] c)
        ∗ (flight (F := F) (0, 0) c ∗ atPos ER (sendC (0, 0) c) 0 ∅ 0)
        ∗ (flight (F := F) (1, 0) c ∗ atPos ER (sendC (1, 0) c) 0 ∅ 0)
        ∗ (flight (F := F) (0, 1) c ∗ atPos ER (sendC (0, 1) c) 0 ∅ 0)
        ∗ (flight (F := F) (1, 1) c ∗ atPos ER (sendC (1, 1) c) 0 ∅ 0)
        ∗ (flight (F := F) (0, 2) c ∗ atPos ER (sendC (0, 2) c) 0 ∅ 0))
      ⊢ iprop((∀ r, owing c (owe [] c)
            ∗ (semVal (sendC (0, 0) c) 0 ∗ reads X (0, 0) c)
            ∗ (semVal (sendC (1, 0) c) 0 ∗ reads X (1, 0) c)
            ∗ (semVal (sendC (0, 1) c) 0 ∗ reads X (0, 1) c)
            ∗ (semVal (sendC (1, 1) c) 0 ∗ reads X (1, 1) c)
            ∗ (semVal (sendC (0, 2) c) 0 ∗ reads X (0, 2) c) -∗ Q r)
          -∗ Runs c (k0_part12 xM (Memref.isWhole_whole _) oM (Memref.isWhole_whole _) cc0_scratch0 cc0_scratch1 cc0_scratch2 cc0_scratch3 cc0_scratch4 cc0_scratch5 cc0_scratch6 c v5 v34 v35) Q) := by
  simp only [k0_part12_eq_skeleton]
  unfold k0_part12_skel
  simp only [Prog.lift, Prog.bind_op, Prog.bind_ret, Prog.pure_eq_ret]
  unfold known reads flight
  iintro ⟨⟨#HR, #Hlev⟩, HO, ⟨Hf00, Ha00⟩, ⟨Hf10, Ha10⟩, ⟨Hf01, Ha01⟩, ⟨Hf11, Ha11⟩, ⟨Hf02, Ha02⟩⟩ Hk
  iapply (wp_sent_if X K (0, 0) c (cond29_iff c) rfl (fun h => xSlice_amount _ _)) $$ [HO Hf00 Ha00]
  · isplitr; · iexact HR
    isplitr; · iexact Hlev
    isplitl [Hf00]; · iexact Hf00
    isplitl [HO] <;> iassumption
  iintro ⟨HO, Hp00⟩
  iapply (wp_sent_if X K (1, 0) c (cond30_iff c) rfl (fun h => xSlice_amount _ _)) $$ [HO Hf10 Ha10]
  · isplitr; · iexact HR
    isplitr; · iexact Hlev
    isplitl [Hf10]; · iexact Hf10
    isplitl [HO] <;> iassumption
  iintro ⟨HO, Hp10⟩
  iapply (wp_sent_if X K (0, 1) c (cond31_iff c) rfl (fun h => oSlice_amount _ _)) $$ [HO Hf01 Ha01]
  · isplitr; · iexact HR
    isplitr; · iexact Hlev
    isplitl [Hf01]; · iexact Hf01
    isplitl [HO] <;> iassumption
  iintro ⟨HO, Hp01⟩
  iapply (wp_sent_if X K (1, 1) c (cond32_iff c) rfl (fun h => oSlice_amount _ _)) $$ [HO Hf11 Ha11]
  · isplitr; · iexact HR
    isplitr; · iexact Hlev
    isplitl [Hf11]; · iexact Hf11
    isplitl [HO] <;> iassumption
  iintro ⟨HO, Hp11⟩
  iapply (wp_sent_if X K (0, 2) c (cond33_iff c) rfl (fun h => oSlice_amount _ _)) $$ [HO Hf02 Ha02]
  · isplitr; · iexact HR
    isplitr; · iexact Hlev
    isplitl [Hf02]; · iexact Hf02
    isplitl [HO] <;> iassumption
  iintro ⟨HO, Hp02⟩
  iapply (runs_ret c _)
  iapply Hk
  isplitl [HO]; · iexact HO
  isplitl [Hp00]; · iexact Hp00
  isplitl [Hp10]; · iexact Hp10
  isplitl [Hp01]; · iexact Hp01
  isplitl [Hp11]; · iexact Hp11
  iexact Hp02

end Cert.Gather

end
-- ==== Proof.Whole.lean ====
module

public import proofs.«01_k».proof.Proof.Parts

/-!
# The whole body

One device's two arrays, cut into the rows its transfers move and put together again; and the body, from the cells' turns
to the cells' ends.
-/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S8192x1024.Idx → Elt F .f32) (K : Dev nD × Option (Fin 25) → ℕ)

/-! ## The arrays in pieces -/

/-- All of device `c`'s argument. -/
def xWhole (c : Dev nD) (f : S8192x1024.Idx → Elt F .f32) : sProp 𝕄 := (xM : Memref sig .tc .hbm S8192x1024 .f32).view.loc (c : Thread nD τ) ↦{fullShare} f
/-- All of device `c`'s result. -/
def oWhole (c : Dev nD) (f : S32768x1024.Idx → Elt F .f32) : sProp 𝕄 := (oM : Memref sig .tc .hbm S32768x1024 .f32).view.loc (c : Thread nD τ) ↦{fullShare} f

theorem given_either (P : Prop) [Decidable P] (R : sProp 𝕄) : R = iprop(given P R ∗ given (¬ P) R) := by
  by_cases h : P
  · rw [given_pos h, given_neg (not_not_intro h)]
    exact eq_of_both (by iintro H; isplitl [H]; · iexact H
                         iempintro) (by iintro ⟨H, -⟩; iexact H)
  · rw [given_neg h, given_pos h, emp_left]

/-- One summand apart from the rest. -/
theorem part_out {s : Finset ℕ} {n : ℕ} (h : n ∈ s) (Φ : ℕ → sProp 𝕄) : bigSep s Φ = iprop(Φ n ∗ bigSep (s.erase n) Φ) := bigSep_erase h

/-- A device's transfers, listed. -/
theorem xfers (Φ : Xfer → sProp 𝕄) : bigSep Finset.univ Φ = iprop(Φ (0, 0) ∗ Φ (0, 1) ∗ Φ (0, 2) ∗ Φ (1, 0) ∗ Φ (1, 1) ∗ Φ (1, 2)
    ∗ Φ (2, 0) ∗ Φ (2, 1) ∗ Φ (2, 2) ∗ Φ (3, 0) ∗ Φ (3, 1) ∗ Φ (3, 2)) := by
  rw [bigSep_univ_eq_bigSepL [(0, 0), (0, 1), (0, 2), (1, 0), (1, 1), (1, 2), (2, 0), (2, 1), (2, 2), (3, 0), (3, 1), (3, 2)] (by decide) (by decide) Φ]
  rfl

/-- A share of a half of the argument, in two. -/
theorem xhalves (c : Dev nD) (n : ℕ) (q : PosShare TreeShare) (g : S8192x1024.Idx → Elt F .f32) :
    (xAt c n q g : sProp 𝕄) = iprop(xAt c n q.left g ∗ xAt c n q.right g) := by
  have h : (xAt c n q g : sProp 𝕄) ⊣⊢ iprop(xAt c n q.left g ∗ xAt c n q.right g) :=
    pointsTo_share (PosShare.mem_left_op_right q)
  exact eq_of_both h.1 h.2

/-- What of the argument a first transfer does not read, there being no such transfer at `c`. -/
def spare (s : Xfer) (c : Dev nD) : sProp 𝕄 := given (¬ Sends s c) (source X s c)

/-- The argument by halves. -/
theorem x_halves (c : Dev nD) (g : S8192x1024.Idx → Elt F .f32) : (xWhole c g : sProp 𝕄) = iprop(xAt c (xOf c) fullShare g ∗ xAt c (1 - xOf c) fullShare g) := by
  unfold xWhole xAt
  have hx := xOf_lt c
  rw [← owned_union (ℓ := (xM : Memref sig .tc .hbm S8192x1024 .f32).view.loc (c : Thread nD τ)) (xRows_disjoint (show xOf c ≠ 1 - xOf c by omega))]
  have h : xRows (xOf c) ∪ xRows (1 - xOf c) = Finset.univ := by
    rcases (show xOf c = 0 ∨ xOf c = 1 by omega) with h | h
    · rw [h]; exact xRows_all
    · rw [h]; exact (Finset.union_comm _ _).trans xRows_all
  rw [h]

/-- The argument, as the local copy and the two first transfers read it. -/
theorem x_parts (c : Dev nD) : (xWhole c (X c) : sProp 𝕄)
    = iprop((xAt c 0 qC (X c) ∗ xAt c 1 qC (X c)) ∗ (reads X (0, 0) c ∗ spare X (0, 0) c) ∗ (reads X (1, 0) c ∗ spare X (1, 0) c)
        ∗ xAt c (1 - xOf c) fullShare.right (X c)) := by
  have e : ∀ s : Xfer, (iprop(reads X s c ∗ spare X s c) : sProp 𝕄) = source X s c := fun s => (given_either (Sends s c) (source X s c)).symm
  rw [e, e, x_halves, xhalves c (xOf c), xhalves c (1 - xOf c), xhalves c (xOf c) fullShare.right]
  have hx := xOf_lt c
  rw [show source X (0, 0) c = xAt c (xOf c) qU (X c) from rfl, show source X (1, 0) c = xAt c (xOf c) qD (X c) from rfl]
  have h2 : (iprop(xAt c 0 qC (X c) ∗ xAt c 1 qC (X c)) : sProp 𝕄) = iprop(xAt c (xOf c) qC (X c) ∗ xAt c (1 - xOf c) qC (X c)) := by
    rcases (show xOf c = 0 ∨ xOf c = 1 by omega) with h | h
    · rw [h]
    · rw [h]; exact eq_of_both BI.sep_comm BI.sep_comm
  rw [h2]
  apply eq_of_both
  · iintro ⟨⟨H1, H2, H3⟩, H4, H5⟩
    isplitl [H1 H4]; · isplitl [H1] <;> iassumption
    isplitl [H2]; · iexact H2
    isplitl [H3] <;> iassumption
  · iintro ⟨⟨H1, H4⟩, H2, H3, H5⟩
    isplitl [H1 H2 H3]
    · isplitl [H1]; · iexact H1
      isplitl [H2] <;> iassumption
    isplitl [H4] <;> iassumption

/-- The result: the device's own block, and what each transfer to it fills. -/
theorem o_parts (c : Dev nD) (g : S32768x1024.Idx → Elt F .f32) : (oWhole c g : sProp 𝕄)
    = iprop((oAt c (2 * yOf c) fullShare g ∗ oAt c (2 * yOf c + 1) fullShare g)
        ∗ bigSep Finset.univ fun s => given (Recvs s c) (oAt c (inPart s c) fullShare g)) := by
  have h4 : yOf c < 4 := Nat.mod_lt _ (by decide)
  have h : (oWhole c g : sProp 𝕄) = bigSep (Finset.range 8) fun n => oAt c n fullShare g := by
    unfold oWhole oAt
    rw [← pointsTo_biUnion (ℓ := (oM : Memref sig .tc .hbm S32768x1024 .f32).view.loc (c : Thread nD τ)) (Finset.range 8) rows (fun t _ t' _ hne => rows_disjoint hne)]
    rw [rows_all]
  rw [h, part_out (show 2 * yOf c ∈ Finset.range 8 from Finset.mem_range.mpr (by omega)),
    part_out (show 2 * yOf c + 1 ∈ (Finset.range 8).erase (2 * yOf c) from Finset.mem_erase.mpr ⟨by omega, Finset.mem_range.mpr (by omega)⟩),
    ← inPart_image c, bigSep_image_of_injOn (fun s hs s' hs' he => inPart_inj c s s' (Finset.mem_filter.mp hs).2 (Finset.mem_filter.mp hs').2 he), bigSep_filter]
  exact eq_of_both (by iintro ⟨H1, H2, H3⟩; isplitl [H1 H2]; · isplitl [H1] <;> iassumption
                       iexact H3) (by
    iintro ⟨⟨H1, H2⟩, H3⟩; isplitl [H1]; · iexact H1
    isplitl [H2]; · iexact H2
    iexact H3)

/-- What a transfer to `c` fills is the room its sender needs. -/
theorem room_of (s : Xfer) (c : Dev nD) (g : S32768x1024.Idx → Elt F .f32) :
    given (Recvs s c) (oAt c (inPart s c) fullShare g) ⊢ (room (F := F) s (src s c) : sProp 𝕄) := by
  unfold room
  rw [dst_src, given_congr (show Recvs s c ↔ Sends s (src s c) from Iff.rfl)]
  exact given_mono fun _ => by
    iintro H; iexists g; iexact H

/-- The room in the result, as the device's signals hand it to its neighbours. -/
theorem rooms (c : Dev nD) (g : S32768x1024.Idx → Elt F .f32) :
    (bigSep Finset.univ fun s => given (Recvs s c) (oAt c (inPart s c) fullShare g) : sProp 𝕄)
      ⊢ iprop(grant (F := F) (partner c) 0 ∗ given (0 < yOf c) (grant (F := F) (down c) 2) ∗ given (yOf c < 3) (grant (F := F) (up c) 1)) := by
  refine (bigSep_mono fun s _ => room_of s c g).trans ?_
  rw [xfers]
  have e2 : iprop(room (F := F) (0, 0) (down c) ∗ room (F := F) (0, 1) (down c) ∗ room (F := F) (0, 2) (down c)) ⊢ (given (0 < yOf c) (grant (F := F) (down c) 2) : sProp 𝕄) := by
    by_cases h : 0 < yOf c
    · rw [given_pos h]; exact BI.Entails.refl _
    · rw [given_neg h]; iintro -; iempintro
  have e1 : iprop(room (F := F) (1, 0) (up c) ∗ room (F := F) (1, 1) (up c) ∗ room (F := F) (1, 2) (up c)) ⊢ (given (yOf c < 3) (grant (F := F) (up c) 1) : sProp 𝕄) := by
    by_cases h : yOf c < 3
    · rw [given_pos h]; exact BI.Entails.refl _
    · rw [given_neg h]; iintro -; iempintro
  show iprop(room (0, 0) (down c) ∗ room (0, 1) (down c) ∗ room (0, 2) (down c) ∗ room (1, 0) (up c) ∗ room (1, 1) (up c) ∗ room (1, 2) (up c)
    ∗ room (2, 0) (partner c) ∗ room (2, 1) (partner c) ∗ room (2, 2) (partner c) ∗ room (3, 0) (partner c) ∗ room (3, 1) (partner c) ∗ room (3, 2) (partner c)) ⊢ _
  iintro ⟨A0, A1, A2, B0, B1, B2, C0, C1, C2, D0, D1, D2⟩
  isplitl [C0 C1 C2 D0 D1 D2]
  · unfold grant
    isplitl [C0 C1 C2]
    · isplitl [C0]; · iexact C0
      isplitl [C1] <;> iassumption
    isplitl [D0]; · iexact D0
    isplitl [D1] <;> iassumption
  isplitl [A0 A1 A2]
  · iapply e2
    isplitl [A0]; · iexact A0
    isplitl [A1] <;> iassumption
  · iapply e1
    isplitl [B0]; · iexact B0
    isplitl [B1] <;> iassumption

/-! ## The body -/

/-- The turns device `c` has at the cells it adds to: its neighbours' barriers, the local copy's, both ends of what it sends. -/
def turns (c : Dev nD) : sProp 𝕄 :=
  iprop(dutyTok ER (barC (partner c)) 0 0 ∗ dutyTok ER (barC (down c)) 0 2 ∗ dutyTok ER (barC (up c)) 0 1 ∗ dutyTok ER (copyC c) 0 0
    ∗ bigSep Finset.univ fun s => iprop(dutyTok ER (sendC s c) 0 0 ∗ dutyTok ER (recvC s (dst s c)) 0 0))
/-- The places of device `c` at its own cells, before their first round. -/
def places (c : Dev nD) : sProp 𝕄 :=
  iprop(atPos ER (barC c) 0 ∅ 0 ∗ atPos ER (copyC c) 0 ∅ 0 ∗ bigSep Finset.univ fun s => iprop(atPos ER (sendC s c) 0 ∅ 0 ∗ atPos ER (recvC s c) 0 ∅ 0))
/-- What others will add to device `c`'s cells. -/
def credits (c : Dev nD) : sProp 𝕄 :=
  iprop(cred (tallyAt (barC c) () (units c)) ∗ bigSep Finset.univ fun s => given (F := F) (Recvs s c) (cred (tallyAt (recvC s c) () N4)))
/-- All of device `c`'s cells at zero. -/
def over (c : Dev nD) : sProp 𝕄 :=
  iprop(semVal (barC c) 0 ∗ semVal (copyC c) 0 ∗ bigSep Finset.univ fun s => iprop(semVal (sendC s c) 0 ∗ semVal (recvC s c) 0))

theorem grant_across (c : Dev nD) : (grant (F := F) c 0 : sProp 𝕄)
    = iprop((room (F := F) (2, 0) c ∗ room (2, 1) c ∗ room (2, 2) c) ∗ room (3, 0) c ∗ room (3, 1) c ∗ room (3, 2) c) := rfl
theorem grant_down (c : Dev nD) : (grant (F := F) c 1 : sProp 𝕄) = iprop(room (F := F) (1, 0) c ∗ room (1, 1) c ∗ room (1, 2) c) := rfl
theorem grant_up (c : Dev nD) : (grant (F := F) c 2 : sProp 𝕄) = iprop(room (F := F) (0, 0) c ∗ room (0, 1) c ∗ room (0, 2) c) := rfl

/-- The result put together: the device's own block copied, every transfer to it arrived. -/
theorem o_whole (c : Dev nD) :
    iprop((oAt c (2 * yOf c) fullShare (gathered X c) ∗ oAt c (2 * yOf c + 1) fullShare (gathered X c)) ∗ bigSep Finset.univ fun s => arrived X s c)
      ⊢ (oWhole c (gathered X c) : sProp 𝕄) := by
  rw [o_parts]; exact BI.Entails.refl _

/-- A program that starts with another runs that first. -/
theorem runs_bind {α β : Type} {Q : β → sProp 𝕄} (c : Dev nD) (p : Prog (TpuEff nD τ sig (Elt F) Λ₀ .tc) α) (k : α → Prog (TpuEff nD τ sig (Elt F) Λ₀ .tc) β) :
    Runs c p (fun a => Runs c (k a) Q) ⊢ Runs c (p >>= k) Q := by
  show wp frame (wpE (defs₀ (F := F)) 𝒱₀ (c : Thread nD τ) none) Set.univ p (fun a => wp frame (wpE (defs₀ (F := F)) 𝒱₀ (c : Thread nD τ) none) Set.univ (k a) Q)
    ⊢ wp frame (wpE (defs₀ (F := F)) 𝒱₀ (c : Thread nD τ) none) Set.univ (p >>= k) Q
  rw [wp_bind]

set_option maxHeartbeats 4000000 in
/-- The whole body on device `c`: its argument unchanged, its result the gathered array, every cell at zero, nothing owed. -/
theorem wp_body (c : Dev nD) (f : S32768x1024.Idx → Elt F .f32) {Q : PUnit → sProp 𝕄} :
    iprop(known X K ∗ owing c (O₀ c) ∗ turns (F := F) c ∗ places (F := F) c ∗ credits (F := F) c ∗ xWhole c (X c) ∗ oWhole c f)
      ⊢ iprop((owing c 0 ∗ over (F := F) c ∗ xWhole c (X c) ∗ oWhole c (gathered X c) -∗ Q ⟨⟩)
          -∗ Runs c (cc0_body xM (Memref.isWhole_whole _) oM (Memref.isWhole_whole _) cc0_scratch0 cc0_scratch1 cc0_scratch2 cc0_scratch3 cc0_scratch4 cc0_scratch5 cc0_scratch6) Q) := by
  simp only [cc0_body_eq_skeleton]
  unfold cc0_body_skel turns places credits
  rw [x_parts, o_parts c f, xfers, xfers, xfers (fun s => given (Recvs s c) (cred (tallyAt (recvC s c) () N4)))]
  iintro ⟨#HN, HO, ⟨T0, T2, T1, Tc, ⟨Ht00, Hu00⟩, ⟨Ht01, Hu01⟩, ⟨Ht02, Hu02⟩, ⟨Ht10, Hu10⟩, ⟨Ht11, Hu11⟩, ⟨Ht12, Hu12⟩, ⟨Ht20, Hu20⟩, ⟨Ht21, Hu21⟩, ⟨Ht22, Hu22⟩, ⟨Ht30, Hu30⟩, ⟨Ht31, Hu31⟩, ⟨Ht32, Hu32⟩⟩,
    ⟨Pb, Pc, ⟨Ha00, Hb00⟩, ⟨Ha01, Hb01⟩, ⟨Ha02, Hb02⟩, ⟨Ha10, Hb10⟩, ⟨Ha11, Hb11⟩, ⟨Ha12, Hb12⟩, ⟨Ha20, Hb20⟩, ⟨Ha21, Hb21⟩, ⟨Ha22, Hb22⟩, ⟨Ha30, Hb30⟩, ⟨Ha31, Hb31⟩, ⟨Ha32, Hb32⟩⟩,
    ⟨Cb, Hc00, Hc01, Hc02, Hc10, Hc11, Hc12, Hc20, Hc21, Hc22, Hc30, Hc31, Hc32⟩, ⟨Hx, ⟨Hs00, Hp00⟩, ⟨Hs10, Hp10⟩, Hx'⟩, ⟨Ho, Hr⟩⟩ Hk
  ihave Hg := (rooms c f) $$ Hr
  icases Hg with ⟨G0, G2, G1⟩
  iapply (runs_bind c _ _)
  iapply (wp_part1 c)
  iintro %v2 %v5 %v8 %v9 %v20 %v32 %v33 %v34 %hv
  dsimp only
  iapply (runs_bind c _ _)
  iapply (wp_part2 X K c v2 v5 v8 v9 v20 v32 v34 hv.1 hv.2 f) $$ [HO T0 G0 T2 G2 T1 G1 Cb Pb Hx Ho Tc]
  · isplitr; · iexact HN
    isplitl [HO]; · iexact HO
    isplitl [T0 G0]; · isplitl [T0] <;> iassumption
    isplitl [T2 G2]; · isplitl [T2] <;> iassumption
    isplitl [T1 G1]; · isplitl [T1] <;> iassumption
    isplitl [Cb Pb]; · isplitl [Cb] <;> iassumption
    isplitl [Hx]; · iexact Hx
    isplitl [Ho] <;> iassumption
  iintro %r ⟨HO, Zb, Hg, Cc⟩
  obtain ⟨v35, v66, v67⟩ := r
  dsimp only
  rw [grant_across, grant_down, grant_up]
  icases Hg with ⟨⟨⟨Hd20, Hd21, Hd22⟩, Hd30, Hd31, Hd32⟩, ⟨Hd10, Hd11, Hd12⟩, Hd00, Hd01, Hd02⟩
  iapply (runs_bind c _ _)
  iapply (wp_part3 c)
  iintro %r
  obtain ⟨v95, v98, v99, v100, v101, v102⟩ := r
  dsimp only
  iapply (runs_bind c _ _)
  iapply (wp_part4 c)
  iintro %r
  obtain ⟨v129, v140⟩ := r
  dsimp only
  iapply (runs_bind c _ _)
  iapply (wp_part5 c)
  iintro %r
  obtain ⟨v164, v176⟩ := r
  dsimp only
  iapply (runs_bind c _ _)
  iapply (wp_part6 c)
  iintro %r
  obtain ⟨v200, v212⟩ := r
  dsimp only
  iapply (runs_bind c _ _)
  iapply (wp_part7 c)
  iintro %r
  obtain ⟨v236, v248⟩ := r
  dsimp only
  iapply (runs_bind c _ _)
  iapply (wp_part8 X K c _ _ _ _ _ _ _ _ _ _) $$ [HO Hs00 Hs10 Hd00 Ht00 Hu00 Hd10 Ht10 Hu10 Hd01 Ht01 Hu01 Hc00 Hb00]
  · isplitr; · iexact HN
    unfold ready awaits
    isplitl [HO]; · iexact HO
    isplitl [Hs00 Hs10]
    · isplitl [Hs00]; · iexact Hs00
      iexact Hs10
    isplitl [Hd00 Ht00 Hu00 Hd10 Ht10 Hu10 Hd01 Ht01 Hu01]
    · isplitl [Hd00 Ht00 Hu00]
      · isplitl [Hd00]; · iexact Hd00
        isplitl [Ht00]; · iexact Ht00
        iexact Hu00
      isplitl [Hd10 Ht10 Hu10]
      · isplitl [Hd10]; · iexact Hd10
        isplitl [Ht10]; · iexact Ht10
        iexact Hu10
      isplitl [Hd01]; · iexact Hd01
      isplitl [Ht01]; · iexact Ht01
      iexact Hu01
    isplitl [Hc00]; · iexact Hc00
    iexact Hb00
  iintro %r ⟨HO, ⟨Hf00, Hf10, Hf01⟩, Hz00, Hk00, Hs20⟩
  obtain ⟨v266, v272⟩ := r
  dsimp only
  iapply (runs_bind c _ _)
  iapply (wp_part9 X K c _ _ _ _ _ _ _ _ _ _) $$ [HO Hs20 Hd20 Ht20 Hu20 Hd11 Ht11 Hu11 Hd30 Ht30 Hu30 Hd02 Ht02 Hu02 Hd21 Ht21 Hu21 Hc10 Hb10 Hc01 Hb01]
  · isplitr; · iexact HN
    unfold ready awaits
    isplitl [HO]; · iexact HO
    isplitl [Hs20]; · iexact Hs20
    isplitl [Hd20 Ht20 Hu20 Hd11 Ht11 Hu11 Hd30 Ht30 Hu30 Hd02 Ht02 Hu02 Hd21 Ht21 Hu21]
    · isplitl [Hd20 Ht20 Hu20]
      · isplitl [Hd20]; · iexact Hd20
        isplitl [Ht20]; · iexact Ht20
        iexact Hu20
      isplitl [Hd11 Ht11 Hu11]
      · isplitl [Hd11]; · iexact Hd11
        isplitl [Ht11]; · iexact Ht11
        iexact Hu11
      isplitl [Hd30 Ht30 Hu30]
      · isplitl [Hd30]; · iexact Hd30
        isplitl [Ht30]; · iexact Ht30
        iexact Hu30
      isplitl [Hd02 Ht02 Hu02]
      · isplitl [Hd02]; · iexact Hd02
        isplitl [Ht02]; · iexact Ht02
        iexact Hu02
      isplitl [Hd21]; · iexact Hd21
      isplitl [Ht21]; · iexact Ht21
      iexact Hu21
    isplitl [Hc10 Hb10]
    · isplitl [Hc10]; · iexact Hc10
      iexact Hb10
    isplitl [Hc01]; · iexact Hc01
    iexact Hb01
  iintro %r ⟨HO, ⟨Hf20, Hf11, Hf30, Hf02, Hf21⟩, ⟨Hz10, Hz01⟩, ⟨Hk10, Hk01⟩⟩
  obtain ⟨v282, v290⟩ := r
  dsimp only
  iapply (runs_bind c _ _)
  iapply (wp_part10 X K c _ _ _ _ _ _ _ _ _) $$ [HO Hd12 Ht12 Hu12 Hd31 Ht31 Hu31 Hd22 Ht22 Hu22 Hd32 Ht32 Hu32 Hc11 Hb11 Hc02 Hb02 Hc12 Hb12]
  · isplitr; · iexact HN
    unfold ready awaits
    isplitl [HO]; · iexact HO
    isplitl [Hd12 Ht12 Hu12 Hd31 Ht31 Hu31 Hd22 Ht22 Hu22 Hd32 Ht32 Hu32]
    · isplitl [Hd12 Ht12 Hu12]
      · isplitl [Hd12]; · iexact Hd12
        isplitl [Ht12]; · iexact Ht12
        iexact Hu12
      isplitl [Hd31 Ht31 Hu31]
      · isplitl [Hd31]; · iexact Hd31
        isplitl [Ht31]; · iexact Ht31
        iexact Hu31
      isplitl [Hd22 Ht22 Hu22]
      · isplitl [Hd22]; · iexact Hd22
        isplitl [Ht22]; · iexact Ht22
        iexact Hu22
      isplitl [Hd32]; · iexact Hd32
      isplitl [Ht32]; · iexact Ht32
      iexact Hu32
    isplitl [Hc11 Hb11]
    · isplitl [Hc11]; · iexact Hc11
      iexact Hb11
    isplitl [Hc02 Hb02]
    · isplitl [Hc02]; · iexact Hc02
      iexact Hb02
    isplitl [Hc12]; · iexact Hc12
    iexact Hb12
  iintro %r ⟨HO, ⟨Hf12, Hf31, Hf22, Hf32⟩, ⟨Hz11, Hz02, Hz12⟩, ⟨Hk11, Hk02, Hk12⟩⟩
  iapply (runs_bind c _ _)
  iapply (wp_part11 X K c _ _ _) $$ [HO Hf20 Ha20 Hc20 Hb20 Hf30 Ha30 Hc30 Hb30 Hf21 Ha21 Hc21 Hb21 Hf31 Ha31 Hc31 Hb31 Hf22 Ha22 Hc22 Hb22 Hf32 Ha32 Hc32 Hb32]
  · isplitr; · iexact HN
    unfold awaits
    isplitl [HO]; · iexact HO
    isplitl [Hf20 Ha20 Hc20 Hb20]
    · isplitl [Hf20]; · iexact Hf20
      isplitl [Ha20]; · iexact Ha20
      isplitl [Hc20]; · iexact Hc20
      iexact Hb20
    isplitl [Hf30 Ha30 Hc30 Hb30]
    · isplitl [Hf30]; · iexact Hf30
      isplitl [Ha30]; · iexact Ha30
      isplitl [Hc30]; · iexact Hc30
      iexact Hb30
    isplitl [Hf21 Ha21 Hc21 Hb21]
    · isplitl [Hf21]; · iexact Hf21
      isplitl [Ha21]; · iexact Ha21
      isplitl [Hc21]; · iexact Hc21
      iexact Hb21
    isplitl [Hf31 Ha31 Hc31 Hb31]
    · isplitl [Hf31]; · iexact Hf31
      isplitl [Ha31]; · iexact Ha31
      isplitl [Hc31]; · iexact Hc31
      iexact Hb31
    isplitl [Hf22 Ha22 Hc22 Hb22]
    · isplitl [Hf22]; · iexact Hf22
      isplitl [Ha22]; · iexact Ha22
      isplitl [Hc22]; · iexact Hc22
      iexact Hb22
    isplitl [Hf32]; · iexact Hf32
    isplitl [Ha32]; · iexact Ha32
    isplitl [Hc32]; · iexact Hc32
    iexact Hb32
  iintro %r ⟨HO, ⟨Hy20, Hz20, Hs20, Hv20⟩, ⟨Hy30, Hz30, Hs30, Hv30⟩, ⟨Hy21, Hz21, Hs21, Hv21⟩, ⟨Hy31, Hz31, Hs31, Hv31⟩, ⟨Hy22, Hz22, Hs22, Hv22⟩, ⟨Hy32, Hz32, Hs32, Hv32⟩⟩
  iapply (runs_bind c _ _)
  iapply (wp_part12 X K c _ _ _) $$ [HO Hf00 Ha00 Hf10 Ha10 Hf01 Ha01 Hf11 Ha11 Hf02 Ha02]
  · isplitr; · iexact HN
    isplitl [HO]; · iexact HO
    isplitl [Hf00 Ha00]
    · isplitl [Hf00]; · iexact Hf00
      iexact Ha00
    isplitl [Hf10 Ha10]
    · isplitl [Hf10]; · iexact Hf10
      iexact Ha10
    isplitl [Hf01 Ha01]
    · isplitl [Hf01]; · iexact Hf01
      iexact Ha01
    isplitl [Hf11 Ha11]
    · isplitl [Hf11]; · iexact Hf11
      iexact Ha11
    isplitl [Hf02]; · iexact Hf02
    iexact Ha02
  iintro %r ⟨HO, ⟨Hy00, Hs00⟩, ⟨Hy10, Hs10⟩, ⟨Hy01, Hs01⟩, ⟨Hy11, Hs11⟩, ⟨Hy02, Hs02⟩⟩
  simp only [Prog.lift, Prog.bind_op, Prog.bind_ret, Prog.pure_eq_ret]
  unfold known flight
  icases HN with ⟨#HR, #Hlev⟩
  iapply (wp_sent_if X K (1, 2) c (cond34_iff c) rfl (fun h => oSlice_amount _ _)) $$ [HO Hf12 Ha12]
  · isplitr; · iexact HR
    isplitr; · iexact Hlev
    isplitl [Hf12]; · iexact Hf12
    isplitl [HO] <;> iassumption
  iintro ⟨HO, Hy12, Hs12⟩
  iapply (wp_copied X K c rfl (oBlock_amount _ _)) $$ [HO Cc Pc]
  · isplitr; · iexact HR
    isplitr; · iexact Hlev
    isplitl [Cc]; · iexact Cc
    isplitl [HO] <;> iassumption
  iintro ⟨HO, Zc, Hcopy⟩
  unfold copied
  icases Hcopy with ⟨Hx, Ho⟩
  iapply (runs_ret c _)
  iapply Hk
  isplitl [HO]; · iexact HO
  isplitl [Zb Zc Hy00 Hz00 Hy01 Hz01 Hy02 Hz02 Hy10 Hz10 Hy11 Hz11 Hy12 Hz12 Hy20 Hz20 Hy21 Hz21 Hy22 Hz22 Hy30 Hz30 Hy31 Hz31 Hy32 Hz32]
  · unfold over
    rw [xfers]
    isplitl [Zb]; · iexact Zb
    isplitl [Zc]; · iexact Zc
    isplitl [Hy00 Hz00]
    · isplitl [Hy00]; · iexact Hy00
      iexact Hz00
    isplitl [Hy01 Hz01]
    · isplitl [Hy01]; · iexact Hy01
      iexact Hz01
    isplitl [Hy02 Hz02]
    · isplitl [Hy02]; · iexact Hy02
      iexact Hz02
    isplitl [Hy10 Hz10]
    · isplitl [Hy10]; · iexact Hy10
      iexact Hz10
    isplitl [Hy11 Hz11]
    · isplitl [Hy11]; · iexact Hy11
      iexact Hz11
    isplitl [Hy12 Hz12]
    · isplitl [Hy12]; · iexact Hy12
      iexact Hz12
    isplitl [Hy20 Hz20]
    · isplitl [Hy20]; · iexact Hy20
      iexact Hz20
    isplitl [Hy21 Hz21]
    · isplitl [Hy21]; · iexact Hy21
      iexact Hz21
    isplitl [Hy22 Hz22]
    · isplitl [Hy22]; · iexact Hy22
      iexact Hz22
    isplitl [Hy30 Hz30]
    · isplitl [Hy30]; · iexact Hy30
      iexact Hz30
    isplitl [Hy31 Hz31]
    · isplitl [Hy31]; · iexact Hy31
      iexact Hz31
    isplitl [Hy32]; · iexact Hy32
    iexact Hz32
  isplitl [Hx Hx' Hs00 Hp00 Hs10 Hp10]
  · isplitl [Hx]; · iexact Hx
    isplitl [Hs00 Hp00]
    · isplitl [Hs00]; · iexact Hs00
      iexact Hp00
    isplitl [Hs10 Hp10]
    · isplitl [Hs10]; · iexact Hs10
      iexact Hp10
    iexact Hx'
  iapply (o_whole X c)
  isplitl [Ho]; · iexact Ho
  rw [xfers]
  unfold arrived
  rw [landed_up0, landed_up1, landed_up2, landed_down0, landed_down1, landed_down2]
  unfold reads
  isplitl [Hs01 Hk00 Hs20]
  · isplitl [Hs01]; · iexact Hs01
    isplitl [Hk00]; · iexact Hk00
    iexact Hs20
  isplitl [Hs02 Hk01 Hs21]
  · isplitl [Hs02]; · iexact Hs02
    isplitl [Hk01]; · iexact Hk01
    iexact Hs21
  isplitl [Hk02 Hs22]
  · isplitl [Hk02]; · iexact Hk02
    iexact Hs22
  isplitl [Hs11 Hk10 Hs30]
  · isplitl [Hs11]; · iexact Hs11
    isplitl [Hk10]; · iexact Hk10
    iexact Hs30
  isplitl [Hs12 Hk11 Hs31]
  · isplitl [Hs12]; · iexact Hs12
    isplitl [Hk11]; · iexact Hk11
    iexact Hs31
  isplitl [Hk12 Hs32]
  · isplitl [Hk12]; · iexact Hk12
    iexact Hs32
  isplitl [Hv20]; · iexact Hv20
  isplitl [Hv21]; · iexact Hv21
  isplitl [Hv22]; · iexact Hv22
  isplitl [Hv30]; · iexact Hv30
  isplitl [Hv31]; · iexact Hv31
  iexact Hv32

end Cert.Gather

end
-- ==== Proof.Cells.lean ====
module

public import proofs.«01_k».proof.Proof.Whole

/-!
# The cells at the launch

Every device's semaphores become cells of the plan; the turns are dealt to the devices that take them, and the units the
devices owe one another are counted out to the devices they come to.
-/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S8192x1024.Idx → Elt F .f32)

/-! ## The semaphores of one device -/

/-- The use of each DMA semaphore: the local copy, a transfer's sending end, a transfer's receiving end. -/
def useFn : Unit ⊕ (Xfer ⊕ Xfer) → Fin 25
  | .inl _ => copyQ
  | .inr (.inl s) => sendQ s
  | .inr (.inr s) => recvQ s

theorem useFn_bijective : Function.Bijective useFn := by
  constructor
  · rintro (_ | s | s) (_ | s' | s') h
    · rfl
    · exact absurd ((congrArg useOf h).symm.trans useOf_copy) (by simp [useFn, useOf_send])
    · exact absurd ((congrArg useOf h).symm.trans useOf_copy) (by simp [useFn, useOf_recv])
    · exact absurd ((congrArg useOf h).trans useOf_copy) (by simp [useFn, useOf_send])
    · have := congrArg useOf h
      simp [useFn, useOf_send] at this; rw [this]
    · exact absurd (congrArg useOf h) (by simp [useFn, useOf_send, useOf_recv])
    · exact absurd ((congrArg useOf h).trans useOf_copy) (by simp [useFn, useOf_recv])
    · exact absurd (congrArg useOf h) (by simp [useFn, useOf_send, useOf_recv])
    · have := congrArg useOf h
      simp [useFn, useOf_recv] at this; rw [this]
  · exact forall_dma ⟨.inl (), rfl⟩ (fun s => ⟨.inr (.inl s), rfl⟩) (fun s => ⟨.inr (.inr s), rfl⟩)

/-- Something of every DMA semaphore is it of the copy's and of both ends of every transfer. -/
theorem by_use (Φ : Fin 25 → sProp 𝕄) : bigSep Finset.univ Φ = iprop(Φ copyQ ∗ bigSep Finset.univ fun s => iprop(Φ (sendQ s) ∗ Φ (recvQ s))) := by
  rw [bigSep_univ_equiv (Equiv.ofBijective useFn useFn_bijective) Φ, bigSep_univ_sum, bigSep_univ_sum, bigSep_sep']
  congr 1
  exact bigSep_univ_eq_bigSepL [()] (by decide) (by decide) _

theorem sep_swap (P R : sProp 𝕄) : iprop(P ∗ R) = iprop(R ∗ P) :=
  eq_of_both (by iintro ⟨H, H'⟩; isplitl [H'] <;> iassumption) (by iintro ⟨H, H'⟩; isplitl [H'] <;> iassumption)

/-- Something of every cell of a device is it of the barrier and of every DMA semaphore. -/
theorem by_cell (Φ : Option (Fin 25) → sProp 𝕄) : bigSep Finset.univ Φ = iprop(Φ none ∗ bigSep Finset.univ fun q => Φ (some q)) := by
  rw [bigSep_univ_equiv (Equiv.optionEquivSumPUnit.{0, 0} (Fin 25)).symm Φ, bigSep_univ_sum,
    bigSep_univ_eq_bigSepL [PUnit.unit] (by decide) (by decide) fun b : PUnit.{1} => Φ ((Equiv.optionEquivSumPUnit.{0, 0} (Fin 25)).symm (.inr b))]
  exact sep_swap _ _

theorem kcell_injective : Function.Injective kcell := by
  rintro ⟨c, k⟩ ⟨c', k'⟩ h
  cases k <;> cases k' <;> simp only [kcell, barC, dmaC, Prod.mk.injEq] at h
  · obtain ⟨⟨h, -⟩, -⟩ := h; rw [h]
  · exact absurd h.2 (by simp)
  · exact absurd h.2 (by simp)
  · obtain ⟨⟨h, -⟩, h'⟩ := h
    rw [h, SemLoc.dma.inj h']

/-- Every cell of every device. -/
def allCells : Finset (GSem nD τ sig) := Finset.univ.map ⟨kcell, kcell_injective⟩

/-- The turns there are: three at a barrier, one at a DMA semaphore. -/
def turnOf (i : Dev nD × (Fin 3 ⊕ Fin 25)) : GSem nD τ sig × ℕ × Fin 3 := match i.2 with
  | .inl d => (barC i.1, 0, d)
  | .inr q => (dmaC i.1 q, 0, 0)

theorem turnOf_injective : Function.Injective turnOf := by
  rintro ⟨c, k⟩ ⟨c', k'⟩ h
  cases k <;> cases k' <;> simp only [turnOf, barC, dmaC, Prod.mk.injEq] at h
  · obtain ⟨⟨⟨h, -⟩, -⟩, -, h'⟩ := h; rw [h, h']
  · exact absurd h.1.2 (by simp)
  · exact absurd h.1.2 (by simp)
  · obtain ⟨⟨⟨h, -⟩, h'⟩, -⟩ := h
    rw [h, SemLoc.dma.inj h']

def allTurns : Finset (GSem nD τ sig × ℕ × Fin 3) := Finset.univ.map ⟨turnOf, turnOf_injective⟩

/-- The ghost state the run starts from. -/
def u₀ : UU := (initOf (Pipeline.cells cfgs cellOf_inj) (Pipeline.launchToks cfgs cellOf_inj), initOf allCells allTurns)

/-- The turns at device `c`'s own cells. -/
def homeTurns (c : Dev nD) : sProp 𝕄 :=
  iprop((dutyTok ER (barC c) 0 0 ∗ dutyTok ER (barC c) 0 1 ∗ dutyTok ER (barC c) 0 2)
    ∗ dutyTok ER (copyC c) 0 0 ∗ bigSep Finset.univ fun s => iprop(dutyTok ER (sendC s c) 0 0 ∗ dutyTok ER (recvC s c) 0 0))

/-- What the launch gives device `c` of its own cells. -/
def dealt (c : Dev nD) : sProp 𝕄 :=
  iprop((bigSep Finset.univ fun k => roundState ER (plan X) (kcell (c, k)) 0)
    ∗ (bigSep Finset.univ fun k => iprop(atPos ER (kcell (c, k)) 0 ∅ 0 ∗ reached ER (kcell (c, k)) 0)) ∗ homeTurns (F := F) c)

/-- What device `c` starts the body with of the cells. -/
def seat (c : Dev nD) : sProp 𝕄 := iprop(∃ K, records X K ∗ turns (F := F) c ∗ places (F := F) c)

theorem fund_cells : BI.own (ER (initOf allCells allTurns)) ⊢ (|==> bigSep Finset.univ (dealt X) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allTurns (fun x => (dutyTok ER x.1 x.2.1 x.2.2 : sProp 𝕄)) = bigSep Finset.univ fun c : Dev nD => homeTurns c := by
    unfold allTurns; rw [bigSep_map, bigSep_univ_prod]
    exact bigSep_congr fun c _ => by
      unfold homeTurns
      rw [bigSep_univ_sum, ← by_use (fun q => (dutyTok ER (dmaC c q) 0 0 : sProp 𝕄))]
      congr 1
      exact bigSep_univ_eq_bigSepL [0, 1, 2] (by decide) (by decide) _
  iintro HX
  imod (Rounds.fund ER (plan X) allCells allTurns) $$ HX with ⟨Hst, Hr, Hat, Htok⟩
  imodintro
  ihave Hst' := (entails_of_eq (hX fun g => roundState ER (plan X) g 0)) $$ Hst
  ihave Hat' := (entails_of_eq (hX fun g => atPos ER g 0 ∅ 0)) $$ Hat
  ihave Hr' := (entails_of_eq (hX fun g => reached ER g 0)) $$ Hr
  ihave Htok' := (entails_of_eq hT) $$ Htok
  unfold dealt; simp only [bigSep_sep']
  isplitl [Hst']; · iexact Hst'
  isplitl [Hat' Hr']
  · isplitl [Hat'] <;> iassumption
  iexact Htok'

/-! ## The semaphores at zero -/

/-- The kernel's own semaphores. -/
def osem (k : Fin 25) : SemLoc sig := .dma k

theorem ownSems_eq (c : Dev nD) : (Pipeline.ownSems0 (Ix := Unit) (Name := ℕ) (U := UU) (Lvl := ℕ) (Val := Elt F) (τ := τ) osem c : sProp 𝕄)
    = bigSep Finset.univ fun q : Fin 25 => semVal (dmaC c q) 0 := rfl

theorem unscopedSems_eq (c : Dev nD) : (unscopedSems0 c : sProp 𝕄) = semVal (barC c) 0 := by
  unfold unscopedSems0; rw [bigSep_eq_bigSepL_of_eq [SemLoc.reg barS] (by decide) (by decide)]; rfl

theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems_eq, unscopedSems_eq, by_cell, sep_swap]
  exact BI.Entails.refl _

/-- At the end the cells are the semaphores again, all at zero. -/
theorem over_sems (c : Dev nD) : (over (F := F) c : sProp 𝕄)
    ⊢ iprop(unscopedSems0 c ∗ Pipeline.ownSems0 (Ix := Unit) (Name := ℕ) (U := UU) (Lvl := ℕ) (Val := Elt F) (τ := τ) osem c) := by
  rw [ownSems_eq, unscopedSems_eq, by_use]
  unfold over
  exact BI.Entails.refl _

theorem open_cells (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun k => iprop(∃ κ : ℕ, cellInv ER (plan X) κ (kcell (c, k))))
          ∗ (bigSep Finset.univ fun k => iprop(atPos ER (kcell (c, k)) 0 ∅ 0 ∗ reached ER (kcell (c, k)) 0)) ∗ homeTurns (F := F) c) := by
  unfold dealt
  iintro ⟨Hos, Hus, Hst, Hat, Htok⟩
  ihave Hv := (sems_cells (F := F) c) $$ [Hos Hus]
  · isplitl [Hos] <;> iassumption
  imod (show iprop((bigSep Finset.univ fun k => semVal (kcell (c, k)) 0) ∗ bigSep Finset.univ fun k => roundState ER (plan X) (kcell (c, k)) 0)
      ⊢ (|={Set.univ}=> bigSep Finset.univ fun k => iprop(∃ κ : ℕ, cellInv ER (plan X) κ (kcell (c, k))) : sProp 𝕄) from by
        rw [← bigSep_sep']
        exact (bigSep_mono fun k _ => (Rounds.body_intro ER (plan X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the turns -/

/-- One turn at every device's own cell is one turn at the cell a transfer of that device arrives at. -/
theorem deal_recv : (bigSep Finset.univ fun c : Dev nD => bigSep Finset.univ fun s : Xfer => (dutyTok ER (recvC s c) 0 (0 : Fin 3) : sProp 𝕄))
    = bigSep Finset.univ fun c : Dev nD => bigSep Finset.univ fun s : Xfer => dutyTok ER (recvC s (dst s c)) 0 (0 : Fin 3) := by
  rw [bigSep_univ_comm, bigSep_univ_comm (fun (c : Dev nD) (s : Xfer) => (dutyTok ER (recvC s (dst s c)) 0 (0 : Fin 3) : sProp 𝕄))]
  exact bigSep_congr fun s _ => bigSep_univ_equiv (dstEquiv s) (fun c : Dev nD => (dutyTok ER (recvC s c) 0 (0 : Fin 3) : sProp 𝕄))

/-- Each turn goes to the device that takes it. -/
theorem deal_turns : (bigSep Finset.univ fun c : Dev nD => (homeTurns c : sProp 𝕄)) ⊢ bigSep Finset.univ fun c : Dev nD => turns c := by
  unfold homeTurns turns
  simp only [bigSep_sep']
  rw [deal_recv, bigSep_univ_equiv swapEquiv (fun c : Dev nD => (dutyTok ER (barC c) 0 (0 : Fin 3) : sProp 𝕄)),
    bigSep_univ_equiv upEquiv (fun c : Dev nD => (dutyTok ER (barC c) 0 (1 : Fin 3) : sProp 𝕄)),
    bigSep_univ_equiv upEquiv.symm (fun c : Dev nD => (dutyTok ER (barC c) 0 (2 : Fin 3) : sProp 𝕄))]
  iintro ⟨⟨H0, H1, H2⟩, Hc, Hs, Hr⟩
  isplitl [H0]; · iexact H0
  isplitl [H2]; · iexact H2
  isplitl [H1]; · iexact H1
  isplitl [Hc]; · iexact Hc
  isplitl [Hs]; · iexact Hs
  iexact Hr

theorem places_eq (c : Dev nD) : (bigSep Finset.univ fun k => (atPos ER (kcell (c, k)) 0 ∅ 0 : sProp 𝕄)) = places c := by
  rw [by_cell, by_use]; rfl

theorem seat_intro (K : Dev nD × Option (Fin 25) → ℕ) (c : Dev nD) : iprop(records X K ∗ turns (F := F) c ∗ places (F := F) c) ⊢ seat X c := by
  unfold seat
  iintro H
  iexists K
  iexact H

theorem seats :
    (bigSep Finset.univ fun c : Dev nD => iprop((bigSep Finset.univ fun k => iprop(∃ κ : ℕ, cellInv ER (plan X) κ (kcell (c, k))))
          ∗ (bigSep Finset.univ fun k => iprop(atPos ER (kcell (c, k)) 0 ∅ 0 ∗ reached ER (kcell (c, k)) 0)) ∗ homeTurns (F := F) c) : sProp 𝕄)
      ⊢ bigSep Finset.univ (seat X) := by
  rw [bigSep_sep', bigSep_sep', ← bigSep_univ_prod (fun i : Dev nD × Option (Fin 25) => iprop(∃ κ : ℕ, cellInv ER (plan X) κ (kcell i))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun i : Dev nD × Option (Fin 25) => (reached ER (kcell i) 0 : sProp 𝕄)),
    bigSep_congr (s := Finset.univ) (fun (c : Dev nD) _ => places_eq c)]
  iintro ⟨HI, ⟨Hat, #HR⟩, Htok⟩
  ihave HK := (BI.bigSep_exists_pi Finset.univ (fun (i : Dev nD × Option (Fin 25)) (κ : ℕ) => (cellInv ER (plan X) κ (kcell i) : sProp 𝕄))) $$ HI
  icases HK with ⟨%K, #HI⟩
  ihave Ht := (deal_turns (F := F)) $$ Htok
  iapply (bigSep_with_persistent (R := records X K) (Φ := fun c => iprop(turns (F := F) c ∗ places (F := F) c)) fun c _ => seat_intro X K c)
  isplitr
  · unfold records; rw [bigSep_sep']
    isplitl; · iexact HI
    iexact HR
  · rw [bigSep_sep']
    isplitl [Ht] <;> iassumption

/-- From every device's semaphores at zero, every device its seat. -/
theorem take_seats : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (seat X) :=
  ((bigSep_mono fun c _ => open_cells X c).trans (bigSep_fupd _ _)).trans (BI.fupd_mono (seats X))

/-! ## What comes to each device -/

theorem due_apply {P : Prop} [Decidable P] (t : CellTallies nD τ sig Unit) (g : GSem nD τ sig) (u : Unit) : due P t g u = if P then t g u else 0 := by
  unfold due; split <;> rfl

theorem recvC_inj {s s' : Xfer} {c c' : Dev nD} (h : recvC s c = recvC s' c') : s = s' ∧ c = c' := by
  simp only [recvC, dmaC, Prod.mk.injEq] at h
  obtain ⟨⟨h, -⟩, h'⟩ := h
  have := congrArg useOf (SemLoc.dma.inj h')
  simp only [useOf_recv, Option.some.injEq, Prod.mk.injEq, and_true] at this
  exact ⟨this, h⟩

theorem barC_inj {c c' : Dev nD} (h : barC c = barC c') : c = c' := by
  simp only [barC, Prod.mk.injEq] at h
  exact h.1.1

theorem recvC_ne_barC (s : Xfer) (c c' : Dev nD) : recvC s c ≠ barC c' := fun h => by
  simp only [recvC, dmaC, barC, Prod.mk.injEq] at h
  exact absurd h.2 (by simp)

/-- What a list of transfers owes at a barrier: nothing. -/
theorem owe_bar (l : List Xfer) (d c : Dev nD) : owe l d (barC c) () = 0 := by
  by_contra h
  obtain ⟨s, -, e⟩ := owe_pos (Nat.pos_of_ne_zero h)
  exact recvC_ne_barC _ _ _ e.symm

/-- What a list of transfers owes at a receiving end: the transfer's rows, if it is in the list and arrives there. -/
theorem owe_recv (d c : Dev nD) (s : Xfer) : ∀ l : List Xfer, l.Nodup →
    owe l d (recvC s c) () = if s ∈ l ∧ Sends s d ∧ d = src s c then N4 else 0
  | [], _ => by simp [owe]
  | s' :: l, h => by
    rw [List.nodup_cons] at h
    rw [owe_cons, Pi.add_apply, Finsupp.add_apply, owe_recv d c s l h.2, due_apply]
    by_cases e : s = s'
    · subst e
      rw [if_neg (fun h' => h.1 h'.1), Nat.zero_add]
      by_cases hs : Sends s d
      · rw [if_pos hs, tallyAt_apply]
        by_cases hd : d = src s c
        · rw [if_pos ⟨by rw [hd, dst_src], rfl⟩, if_pos ⟨List.mem_cons_self, hs, hd⟩]
        · rw [if_neg (fun h' => hd (by rw [(recvC_inj h'.1).2, src_dst])), if_neg (fun h' => hd h'.2.2)]
      · rw [if_neg hs, if_neg (fun h' => hs h'.2.1)]
    · rw [tallyAt_ne_cell (fun h' => e (recvC_inj h').1), Finsupp.zero_apply, ite_self, Nat.add_zero]
      exact if_congr (by simp [e]) rfl rfl

theorem mem_order : ∀ s, s ∈ order := by decide
theorem nodup_order : order.Nodup := by decide

theorem owed_recv (d c : Dev nD) (s : Xfer) : O₀ d (recvC s c) () = if d = src s c then (if Recvs s c then N4 else 0) else 0 := by
  unfold O₀ O₁ O₂ O₃
  simp only [Pi.add_apply, Finsupp.add_apply]
  rw [due_apply, due_apply, tallyAt_ne_cell (recvC_ne_barC _ _ _), tallyAt_ne_cell (recvC_ne_barC _ _ _), tallyAt_ne_cell (recvC_ne_barC _ _ _),
    Finsupp.zero_apply, ite_self, ite_self, owe_recv d c s order nodup_order]
  simp only [Nat.add_zero]
  by_cases h : d = src s c
  · subst h
    rw [if_pos rfl]
    exact if_congr ⟨fun h' => h'.2.1, fun h' => ⟨mem_order s, h', rfl⟩⟩ rfl rfl
  · rw [if_neg h, if_neg (fun h' => h h'.2.2)]

theorem yOf_down_lt : ∀ c, yOf (down c) < 3 ↔ 0 < yOf c := by decide
theorem yOf_up_pos : ∀ c, 0 < yOf (up c) ↔ yOf c < 3 := by decide

theorem owed_bar (d c : Dev nD) : O₀ d (barC c) ()
    = (if d = down c then (if 0 < yOf c then 1 else 0) else 0) + (if d = up c then (if yOf c < 3 then 1 else 0) else 0) + (if d = partner c then 1 else 0) := by
  unfold O₀ O₁ O₂ O₃
  simp only [Pi.add_apply, Finsupp.add_apply]
  rw [due_apply, due_apply, owe_bar, Nat.zero_add, tallyAt_apply, tallyAt_apply, tallyAt_apply]
  congr 1
  · congr 1
    · by_cases h : d = down c
      · subst h
        rw [if_pos rfl, up_down, if_pos (c := barC c = barC c ∧ () = ()) ⟨rfl, rfl⟩]
        exact if_congr (yOf_down_lt c) rfl rfl
      · rw [if_neg (c := d = down c) h, if_neg (c := barC c = barC (up d) ∧ () = ()) (fun h' => h (by rw [barC_inj h'.1, down_up])), ite_self]
    · by_cases h : d = up c
      · subst h
        rw [if_pos rfl, down_up, if_pos (c := barC c = barC c ∧ () = ()) ⟨rfl, rfl⟩]
        exact if_congr (yOf_up_pos c) rfl rfl
      · rw [if_neg (c := d = up c) h, if_neg (c := barC c = barC (down d) ∧ () = ()) (fun h' => h (by rw [barC_inj h'.1, up_down])), ite_self]
  · by_cases h : d = partner c
    · subst h
      rw [if_pos ⟨by rw [partner_partner], rfl⟩, if_pos rfl]
    · rw [if_neg (fun h' => h (by rw [barC_inj h'.1, partner_partner])), if_neg h]

theorem launch_bar (c : Dev nD) :
    tallyOn (barC c) (launchCredit (Pipeline.owing O₀) 0 (barC c)) = (tallyAt (barC c) () (units c) : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (down c) fun _ => _, Finset.sum_ite_eq' Finset.univ (up c) fun _ => _, Finset.sum_ite_eq' Finset.univ (partner c) fun _ => 1,
    if_pos (Finset.mem_univ _), if_pos (Finset.mem_univ _), if_pos (Finset.mem_univ _)]
  unfold units
  omega

theorem launch_recv (c : Dev nD) (s : Xfer) :
    tallyOn (recvC s c) (launchCredit (Pipeline.owing O₀) 0 (recvC s c)) = (tallyAt (recvC s c) () (if Recvs s c then N4 else 0) : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (src s c) fun _ => _,
    if_pos (Finset.mem_univ _)]

/-- What the launch counts out to device `c` covers what it waits for. -/
theorem launch_credits (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.image fun s : Xfer => SemLoc.dma (recvQ s)) fun sm h => ?_).trans ?_
  · obtain ⟨s, -, rfl⟩ := Finset.mem_image.mp h
    exact Finset.mem_erase.mpr ⟨by simp, Finset.mem_univ _⟩
  rw [bigSep_image_of_injOn (fun s _ s' _ h => by
    have := congrArg useOf (SemLoc.dma.inj h)
    simpa only [useOf_recv, Option.some.injEq, Prod.mk.injEq, and_true] using this)]
  refine bigSep_mono fun s _ => ?_
  rw [show tallyOn ((c.tc : Thread nD τ), SemLoc.dma (recvQ s)) (launchCredit (Pipeline.owing O₀) 0 ((c.tc : Thread nD τ), SemLoc.dma (recvQ s))) = _ from launch_recv c s]
  by_cases h : Recvs s c
  · rw [if_pos h, given_pos h]; exact BI.Entails.refl _
  · rw [given_neg h]
    exact show iprop(cred (tallyAt (recvC s c) () (if Recvs s c then N4 else 0))) ⊢ (iprop(emp) : sProp 𝕄) by
      iintro -
      iempintro

end Cert.Gather

end
-- ==== Proof.Launch.lean ====
module

public import proofs.«01_k».proof.Proof.Cells
public import Idealize.ShloMosaic.Lib.Pipeline.Quiescent

/-!
# The run

The body's proof, put under the launch: what every execution of the kernel on the mesh leaves in memory.
-/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What every device's argument holds at the start. -/
def argOf (c : Dev nD) : S8192x1024.Idx → Elt F .f32 := m ((c : Thread nD τ).loc main_arg0)
/-- What every device's result array holds at the start. -/
def resOf (c : Dev nD) : S32768x1024.Idx → Elt F .f32 := m ((c : Thread nD τ).loc main_v1)

/-- What device `c` starts the body with. -/
def start (c : Dev nD) : sProp 𝕄 :=
  iprop(seat (argOf m) c ∗ credits (F := F) c ∗ levAts L lv ∗ xWhole c (argOf m c) ∗ oWhole c (resOf m c))
/-- What it ends the body with. -/
def finish (c : Dev nD) : sProp 𝕄 := iprop(over (F := F) c ∗ xWhole c (argOf m c) ∗ oWhole c (gathered (argOf m) c))

/-- The kernel has no windows: nothing but the start, the end, and what is owed. -/
def dats (_ : Fin 1) (c : Dev nD) : Pipeline.Dat τ (Elt F) Unit ℕ UU ℕ cfg0 c where
  A w := m ((cfg0.win w).arr.view.loc (c : Thread nD τ))
  after w _ := (show Fin 0 from w).elim0
  Φ t := match t with
    | ⟨0, _⟩ => start m c
    | ⟨_ + 1, _⟩ => finish m c
  q _ := fullShare
  owed t := match t with
    | ⟨0, _⟩ => O₀ c
    | ⟨_ + 1, _⟩ => 0

theorem no_windows (Φ : Fin cfg0.W → sProp 𝕄) : bigSep Finset.univ Φ = iprop(emp) :=
  bigSep_empty (Φ := Φ)

theorem ownSemFacts : Pipeline.OwnSemFacts cfg0.spec osem := by decide

theorem share_full (c : Dev nD) (w : Fin cfg0.W) : (dats m 0 c).share w = fullShare := (show Fin 0 from w).elim0

/-- The body's obligation on device `c`. -/
theorem body_meets (c : Dev nD) : Pipeline.BodyObligation (dats (F := F) m 0 c) (defs₀ (F := F)) 𝒱₀ () Set.univ := fun t => by
  rw [fin_N0 t, no_windows, no_windows]
  show iprop(start m c ∗ (dats m 0 c).owesAt () t0_0.castSucc ∗ emp) ⊢ Runs c (bodyAt0 t0_0) fun _ => iprop(finish m c ∗ (dats m 0 c).owesAt () t0_0.succ ∗ emp)
  unfold start seat
  iintro ⟨⟨⟨%K, #HR, HT, HP⟩, HC, #HL, Hx, Ho⟩, ⟨%W, -, HO⟩, -⟩
  iapply (wp_body (argOf m) K c (resOf m c)) $$ [HO HT HP HC Hx Ho]
  · isplitr
    · unfold known
      isplitl; · iexact HR
      iexact HL
    isplitl [HO]; · unfold owing; iexists W; iexact HO
    isplitl [HT]; · iexact HT
    isplitl [HP]; · iexact HP
    isplitl [HC]; · iexact HC
    isplitl [Hx]; · iexact Hx
    iexact Ho
  · unfold owing finish
    iintro ⟨⟨%W', HO⟩, HV, Hx, Ho⟩
    isplitl [HV Hx Ho]
    · isplitl [HV]; · iexact HV
      isplitl [Hx]; · iexact Hx
      iexact Ho
    isplitl
    · iexists W'
      isplitr; · ipureintro; exact fun _ _ => Or.inl trivial
      iexact HO
    · iempintro

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ seat (argOf m) c)
      ⊢ |={Set.univ}=> iprop(start m c ∗ emp) := by
  rw [Pipeline.unscopedRestP_none, unscopedRest0_eq]
  iintro ⟨⟨Hx, Ho⟩, Hlev, Hcr, -, HG⟩
  ihave Hc := (launch_credits (F := F) c) $$ Hcr
  imodintro
  unfold start xWhole oWhole
  isplitl
  · isplitl [HG]; · iexact HG
    isplitl [Hc]; · iexact Hc
    isplitl [Hlev]; · iexact Hlev
    isplitl [Hx]; · iexact Hx
    iexact Ho
  · iempintro

theorem begin_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -⟩
  iexact Hs

/-- What a device holds when the kernel has returned. -/
def left (c : Dev nD) : sProp 𝕄 := iprop(unscopedSems0 c ∗ xWhole c (argOf m c) ∗ oWhole c (gathered (argOf m) c))

theorem end_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = finish m c from rfl, scopedRest0_eq]
  unfold finish left
  iintro ⟨HV, Hx, Ho⟩
  ihave Hs := (over_sems (F := F) c) $$ HV
  icases Hs with ⟨Hu, Hs⟩
  isplitl [Hu Hx Ho]
  · isplitl [Hu]; · iexact Hu
    isplitl [Hx]; · iexact Hx
    iexact Ho
  isplitl [Hs]; · iexact Hs
  iempintro

theorem waits (c : Dev nD) : (levAts L lv : sProp 𝕄) ⊢ Pipeline.cellsWaits cfgs (dats m) () 0 c :=
  Pipeline.cellsWaits_intro cfgs (dats m) () 0 c fun w s t => (show Fin 0 from w).elim0

/-- What device `c` ends with: its argument as it was, its result gathered, its semaphores outside the kernel at zero. -/
def Ends (c : Dev nD) (s : MemSt nD τ sig (Elt F)) : Prop :=
  s.mem ((c : Thread nD τ).loc main_arg0) = argOf m c ∧ s.mem ((c : Thread nD τ).loc main_v1) = gathered (argOf m) c
    ∧ ∀ sm : SemLoc sig, sm.isScoped .tc = false → s.sem ((c.tc : Thread nD τ), sm) = 0

theorem left_read (c : Dev nD) (s' : Phys nD τ sig (Elt F)) :
    iprop(left m c ∗ emp ∗ SI s') ⊢ |={Set.univ}=> iprop(⌜Ends m c s'.mem⌝ ∗ SI s') := by
  unfold left xWhole oWhole
  iintro ⟨⟨Hu, Hx, Ho⟩, -, HS⟩
  ihave %hx := (SI_pointsTo_agree (st := s')) $$ [HS Hx]
  · isplitl [HS] <;> iassumption
  ihave %ho := (SI_pointsTo_agree (st := s')) $$ [HS Ho]
  · isplitl [HS] <;> iassumption
  ihave %hs := (tcUnscoped_read c s') $$ [Hu HS]
  · isplitl [Hu] <;> iassumption
  imodintro
  isplitr
  · ipureintro
    exact ⟨funext fun i => hx i (Finset.mem_univ _), funext fun i => ho i (Finset.mem_univ _), hs⟩
  · iexact HS

set_option maxRecDepth 8000 in
/-- For any float values, from any memory with every semaphore at zero: every weakly fair execution of the kernel on the
    thirty-two devices terminates, and leaves every device's argument as it was, its result the gathered array, and every
    semaphore at zero. -/
theorem run_main : θ_run defs (onTc (τ := τ) (main (F := F))) ⟨m, fun _ => 0, ρ⟩
    (fun r => (∀ c : Dev nD, r.2.mem ((c : Thread nD τ).loc main_arg0) = argOf m c ∧ r.2.mem ((c : Thread nD τ).loc main_v1) = gathered (argOf m) c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_meets m) (hne := fun w => (show Fin 0 from w).elim0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := dealt (argOf m)) (G' := seat (argOf m)) (u₀ := u₀)
    (hu₀ := by
      unfold u₀
      iintro Hu
      ihave H := (ownU_pair _ _) $$ Hu
      icases H with ⟨HP, HX⟩
      imod (fund_cells (argOf m)) $$ HX with HG
      imodintro
      isplitl [HP] <;> iassumption)
    (hglob := take_seats (argOf m))
    (hA := fun _ _ => rfl) (hpf := fun _ k => k.elim0)
    (X := start m) (Y := left m) (Z := fun _ => iprop(emp))
    (hX := start_intro m ρ) (hin := begin_intro m) (hout := end_exit m)
    (QY := Ends m)
    (hY := left_read m)
    (hQ := fun _ h hs => ⟨fun c => ⟨(h c).2.2.1, (h c).2.2.2.1⟩, sem_eq_zero hs fun c => (h c).2.2.2.2⟩)

end Cert.Gather

end
-- ==== Proof.Value.lean ====
module

public import proofs.«01_k».proof.Proof.Launch
public import proofs.«01_k».proof.Proof.Gen.ReferenceIdeal
public import Idealize.ShloMosaic.Lib.StableHlo.Run
public import Idealize.ShloMosaic.Lib.Quiescent

/-!
# The value

The gathered array is the whole array the devices' arguments are the blocks of, and the reference's run, which does nothing.
-/

@[expose] public section

noncomputable section

namespace Cert.Gather

open Cert.KernelIdeal
open Idealize.ShloMosaic Idealize.ShloMosaic.TcCoe

variable {F : FTy → Type} [FloatOps F]

/-- Device `c` holds block `yOf c` of the rows. -/
theorem block_rows : ∀ c : Dev nD, Layout.meshLin [2, 4, 4] c.val [1] = yOf c := by decide

/-- If every device's argument is its block of `v`, what every device gathers is `v`. -/
theorem gathered_eq (X : Dev nD → S8192x1024.Idx → Elt F .f32) (v : S32768x1024.Idx → Elt F .f32)
    (h : ∀ c : Dev nD, X c = Layout.blockN ⟨2, ![8192, 1024]⟩ ⟨2, ![32768, 1024]⟩ (Layout.meshBlock [2, 4, 4] ![[1], []] c) v) (c : Dev nD) :
    gathered X c = v := by
  funext i
  unfold gathered
  have hi : (i 0).val < 32768 := (i 0).isLt
  rw [h, Layout.blockN_apply]
  refine congrArg v (funext fun a => Fin.ext ?_)
  rw [Layout.TilesN.idx_val]
  fin_cases a
  · show Layout.meshLin [2, 4, 4] (holder c ((i 0).val / 4096)).val [1] * 8192 + (i 0).val % 8192 = (i 0).val
    rw [block_rows, holder_block c _ (Finset.mem_range.mpr (by omega))]
    omega
  · show 0 * 1024 + (i 1).val = (i 1).val
    rw [Nat.zero_mul, Nat.zero_add]

end Cert.Gather

namespace Cert.Identity

open Cert.ReferenceIdeal Cert.ReferenceIdeal.Gen
open Idealize.ShloMosaic Idealize.ShloMosaic.StableHlo

variable {F : FTy → Type} [FloatOps F]

/-- The reference returns its argument: it runs no operation, and its memory ends as it began. -/
theorem run_reference (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.Identity

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Value
public import Idealize.ShloMosaic.Adequacy
public import Idealize.ShloMosaic.Init

@[expose] public section

noncomputable section

namespace Cert.Proof

open Idealize.ShloMosaic Idealize.SL.Sem

/-- The kernel as printed is the same text as the one the run is proved of. -/
theorem frame_kernel : Cert.quiescent_Kernel := fun m ρ _ =>
  (θ_run Cert.KernelIdeal.defs _ _).mono (fun _ h => ⟨fun c => (h.1 c).1, h.2⟩) (Cert.Gather.run_main (F := Bits) m ρ)

theorem frame_ideal : Cert.quiescent_KernelIdeal := fun m ρ _ =>
  (θ_run Cert.KernelIdeal.defs _ _).mono (fun _ h => ⟨fun c => (h.1 c).1, h.2⟩) (Cert.Gather.run_main (F := Ideal) m ρ)

theorem frame_reference_ideal : Cert.quiescent_ReferenceIdeal := fun m ρ _ => Cert.Identity.run_reference m ρ

/-- The reference as printed is the same text too. -/
theorem frame_reference : Cert.quiescent_Reference := fun m ρ _ => Cert.Identity.run_reference (F := Bits) m ρ

/-- Every device's result is the whole array, which is the reference's result. -/
theorem algebraic : Cert.algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ e c => ⟨(e.1 c).2.trans (Cert.Gather.gathered_eq (Cert.Gather.argOf m) _ h c), (e.1 c).1⟩) (Cert.Gather.run_main (F := Ideal) m ρ),
    (θ_run Cert.ReferenceIdeal.defs _ _).mono (fun _ e => ⟨e.1 0, e.1 0⟩) (Cert.Identity.run_reference m' ρ')⟩

/-- The same of the words themselves: every device's result is the whole array word for word. -/
theorem bitexact : Cert.bitexact_Kernel_Reference := fun m ρ m' ρ' _ h =>
  ⟨m' (((0 : Dev Cert.Reference.nD).tc : Thread Cert.Reference.nD Cert.Reference.τ).loc Cert.Reference.main_arg0),
    (θ_run Cert.KernelIdeal.defs _ _).mono
      (fun _ e c => ⟨(e.1 c).2.trans (Cert.Gather.gathered_eq (F := Bits) (Cert.Gather.argOf m) _ h c), (e.1 c).1⟩)
      (Cert.Gather.run_main (F := Bits) m ρ),
    (θ_run Cert.ReferenceIdeal.defs _ _).mono (fun _ e => ⟨e.1 0, e.1 0⟩) (Cert.Identity.run_reference (F := Bits) m' ρ')⟩

theorem claim : Cert.Claim :=
  ⟨Cert.Kernel.Gen.facts, Cert.KernelIdeal.Gen.facts, Cert.ReferenceIdeal.Gen.facts, Cert.Reference.Gen.facts,
    frame_kernel, frame_ideal, frame_reference_ideal, frame_reference, trivial, algebraic, bitexact⟩

end Cert.Proof

end
